-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v171)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S4096x128 : Shape := ⟨2, ![4096, 128]⟩
abbrev S4096x4096 : Shape := ⟨2, ![4096, 4096]⟩
abbrev S256x2 : Shape := ⟨2, ![256, 2]⟩
abbrev S2 : Shape := ⟨1, ![2]⟩
abbrev S2x4096x4096 : Shape := ⟨3, ![2, 4096, 4096]⟩
abbrev S_ : Shape := ⟨0, ![]⟩
abbrev S1x4096x4096 : Shape := ⟨3, ![1, 4096, 4096]⟩
abbrev S4096 : Shape := ⟨1, ![4096]⟩
abbrev S4096x1 : Shape := ⟨2, ![4096, 1]⟩

class Facts : Prop where
  bcast_S_S2x4096x4096 : S_.BroadcastsInDim S2x4096x4096 (![] : Fin 0 → Fin S2x4096x4096.rank)
  bcast_S_S4096x128 : S_.BroadcastsInDim S4096x128 (![] : Fin 0 → Fin S4096x128.rank)
  bcast_S_S256x2 : S_.BroadcastsInDim S256x2 (![] : Fin 0 → Fin S256x2.rank)
  bcast_S_S2 : S_.BroadcastsInDim S2 (![] : Fin 0 → Fin S2.rank)
  bcast_S_S4096x4096 : S_.BroadcastsInDim S4096x4096 (![] : Fin 0 → Fin S4096x4096.rank)
  slices_S2x4096x4096_S1x4096x4096_0_0_0 : S2x4096x4096.Slices ![0, 0, 0] S1x4096x4096
  shapeCasts_S1x4096x4096_S4096x4096 : S1x4096x4096.ShapeCasts S4096x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  natLt_1_32 : 1 < 32
  bcast_S_S4096 : S_.BroadcastsInDim S4096 (![] : Fin 0 → Fin S4096.rank)
  slices_S2x4096x4096_S1x4096x4096_1_0_0 : S2x4096x4096.Slices ![1, 0, 0] S1x4096x4096

variable [Facts]

def fn_where {F : FTy → Type} [FloatOps F] (arg0 : IVec S2x4096x4096 1) (arg1 : IVec S_ 32) (arg2 : IVec S_ 32) : IVec S2x4096x4096 32 :=
  let v0 : IVec S2x4096x4096 32 := broadcastInDim S2x4096x4096 ![] bcast_S_S2x4096x4096 arg1
  let v1 : IVec S2x4096x4096 32 := broadcastInDim S2x4096x4096 ![] bcast_S_S2x4096x4096 arg2
  let v2 : IVec S2x4096x4096 32 := select arg0 v0 v1
  v2

def fn_where_0 {F : FTy → Type} [FloatOps F] (arg0 : IVec S4096x4096 1) (arg1 : FVec F S_ .f32) (arg2 : FVec F S4096x4096 .f32) : FVec F S4096x4096 .f32 :=
  let v0 : FVec F S_ .f32 := id arg1
  let v1 : FVec F S4096x4096 .f32 := broadcastInDim S4096x4096 ![] bcast_S_S4096x4096 v0
  let v2 : FVec F S4096x4096 .f32 := select arg0 v1 arg2
  v2

def fn_part13 {F : FTy → Type} [FloatOps F] (main_v194 : IVec S4096x128 1) (main_v197 : IVec S4096x128 1) (main_v200 : IVec S256x2 1) (main_v203 : IVec S2 1) (main_v206 : IVec S4096x4096 1) (main_v209 : IVec S4096x4096 1) (main_v226 : IVec S4096 1) (main_v239 : IVec S4096x4096 1) : IVec S4096x128 1 × IVec S4096x128 1 × IVec S256x2 1 × IVec S2 1 × IVec S4096x4096 1 × IVec S4096x4096 1 × IVec S4096 1 × IVec S4096 1 :=
  let main_v240 : IVec S4096x4096 32 := (extui 32 · natLt_1_32) main_v239
  let main_c_70 : IVec S_ 32 := constantI S_ 32 0#32
  let main_v241 : IVec S4096 32 := (fun x v => Host.reduce IntOp.addi x v reducesTo_S4096x4096_S4096_d1 h_S_) main_v240 main_c_70
  let main_c_71 : IVec S_ 32 := constantI S_ 32 1#32
  let main_v242 : IVec S4096 32 := broadcastInDim S4096 ![] bcast_S_S4096 main_c_71
  let main_v243 : IVec S4096 1 := cmpi .eq main_v241 main_v242
  (main_v194, main_v197, main_v200, main_v203, main_v206, main_v209, main_v226, main_v243)

def fn_part12 {F : FTy → Type} [FloatOps F] (main_arg3 : FVec F S4096x4096 .f32) (main_v191 : FVec F S2x4096x4096 .f32) (main_v194 : IVec S4096x128 1) (main_v197 : IVec S4096x128 1) (main_v200 : IVec S256x2 1) (main_v203 : IVec S2 1) (main_v206 : IVec S4096x4096 1) (main_v209 : IVec S4096x4096 1) (main_v218 : FVec F S4096x4096 .f32) (main_v220 : FVec F S4096x1 .f32) : IVec S4096x128 1 × IVec S4096x128 1 × IVec S256x2 1 × IVec S2 1 × IVec S4096x4096 1 × IVec S4096x4096 1 × IVec S4096 1 × IVec S4096 1 :=
  let main_v221 : FVec F S4096x4096 .f32 := broadcastInDim S4096x4096 ![0, 1] bcast_S4096x1_S4096x4096_0_1 main_v220
  let main_v222 : IVec S4096x4096 1 := cmpf .oeq main_v218 main_v221
  let main_v223 : IVec S4096x4096 32 := (extui 32 · natLt_1_32) main_v222
  let main_c_65 : IVec S_ 32 := constantI S_ 32 0#32
  let main_v224 : IVec S4096 32 := (fun x v => Host.reduce IntOp.addi x v reducesTo_S4096x4096_S4096_d1 h_S_) main_v223 main_c_65
  let main_c_66 : IVec S_ 32 := constantI S_ 32 1#32
  let main_v225 : IVec S4096 32 := broadcastInDim S4096 ![] bcast_S_S4096 main_c_66
  let main_v226 : IVec S4096 1 := cmpi .eq main_v224 main_v225
  let main_v227 : FVec F S1x4096x4096 .f32 := (extractStridedSlice S1x4096x4096 ![1, 0, 0] · slices_S2x4096x4096_S1x4096x4096_1_0_0) main_v191
  let main_v228 : FVec F S4096x4096 .f32 := shapeCast S4096x4096 main_v227 shapeCasts_S1x4096x4096_S4096x4096
  let main_v229 : IVec S4096x4096 32 := iotaInDim S4096x4096 32 0
  let main_v230 : IVec S4096x4096 32 := iotaInDim S4096x4096 32 1
  let main_c_67 : IVec S_ 32 := constantI S_ 32 0#32
  let main_v231 : IVec S4096x4096 32 := broadcastInDim S4096x4096 ![] bcast_S_S4096x4096 main_c_67
  let main_v232 : IVec S4096x4096 32 := addi main_v229 main_v231
  let main_v233 : IVec S4096x4096 1 := cmpi .eq main_v232 main_v230
  let main_v234 : FVec F S4096x4096 .f32 := addf main_arg3 main_v228
  let main_cst_68 : FVec F S_ .f32 := constant S_ .f32 0xFF800000#32
  let main_v235 : FVec F S4096x4096 .f32 := fn_where_0 (F := F) main_v233 main_cst_68 main_v234
  let main_cst_69 : FVec F S_ .f32 := constant S_ .f32 0xFF800000#32
  let main_v236 : FVec F S4096 .f32 := (fun x v => Host.reduce FloatOps.maximumf x v reducesTo_S4096x4096_S4096_d1 h_S_) main_v235 main_cst_69
  let main_v237 : FVec F S4096x1 .f32 := broadcastInDim S4096x1 ![0] bcast_S4096_S4096x1_0 main_v236
  let main_v238 : FVec F S4096x4096 .f32 := broadcastInDim S4096x4096 ![0, 1] bcast_S4096x1_S4096x4096_0_1 main_v237
  let main_v239 : IVec S4096x4096 1 := cmpf .oeq main_v235 main_v238
  fn_part13 (F := F) main_v194 main_v197 main_v200 main_v203 main_v206 main_v209 main_v226 main_v239

def fn_part11 {F : FTy → Type} [FloatOps F] (main_arg2 : FVec F S4096x4096 .f32) (main_arg3 : FVec F S4096x4096 .f32) (main_v191 : FVec F S2x4096x4096 .f32) (main_v194 : IVec S4096x128 1) (main_v197 : IVec S4096x128 1) (main_v200 : IVec S256x2 1) (main_v201 : FVec F S2 .f32) (main_cst_59 : FVec F S_ .f32) : IVec S4096x128 1 × IVec S4096x128 1 × IVec S256x2 1 × IVec S2 1 × IVec S4096x4096 1 × IVec S4096x4096 1 × IVec S4096 1 × IVec S4096 1 :=
  let main_v202 : FVec F S2 .f32 := broadcastInDim S2 ![] bcast_S_S2 main_cst_59
  let main_v203 : IVec S2 1 := cmpf .olt main_v201 main_v202
  let main_v204 : FVec F S4096x4096 .f32 := Host.absf main_arg2
  let main_cst_60 : FVec F S_ .f32 := constant S_ .f32 0x42000000#32
  let main_v205 : FVec F S4096x4096 .f32 := broadcastInDim S4096x4096 ![] bcast_S_S4096x4096 main_cst_60
  let main_v206 : IVec S4096x4096 1 := cmpf .ole main_v204 main_v205
  let main_v207 : FVec F S4096x4096 .f32 := Host.absf main_arg3
  let main_cst_61 : FVec F S_ .f32 := constant S_ .f32 0x42000000#32
  let main_v208 : FVec F S4096x4096 .f32 := broadcastInDim S4096x4096 ![] bcast_S_S4096x4096 main_cst_61
  let main_v209 : IVec S4096x4096 1 := cmpf .ole main_v207 main_v208
  let main_v210 : FVec F S1x4096x4096 .f32 := (extractStridedSlice S1x4096x4096 ![0, 0, 0] · slices_S2x4096x4096_S1x4096x4096_0_0_0) main_v191
  let main_v211 : FVec F S4096x4096 .f32 := shapeCast S4096x4096 main_v210 shapeCasts_S1x4096x4096_S4096x4096
  let main_v212 : IVec S4096x4096 32 := iotaInDim S4096x4096 32 0
  let main_v213 : IVec S4096x4096 32 := iotaInDim S4096x4096 32 1
  let main_c_62 : IVec S_ 32 := constantI S_ 32 0#32
  let main_v214 : IVec S4096x4096 32 := broadcastInDim S4096x4096 ![] bcast_S_S4096x4096 main_c_62
  let main_v215 : IVec S4096x4096 32 := addi main_v212 main_v214
  let main_v216 : IVec S4096x4096 1 := cmpi .eq main_v215 main_v213
  let main_v217 : FVec F S4096x4096 .f32 := addf main_arg2 main_v211
  let main_cst_63 : FVec F S_ .f32 := constant S_ .f32 0xFF800000#32
  let main_v218 : FVec F S4096x4096 .f32 := fn_where_0 (F := F) main_v216 main_cst_63 main_v217
  let main_cst_64 : FVec F S_ .f32 := constant S_ .f32 0xFF800000#32
  let main_v219 : FVec F S4096 .f32 := (fun x v => Host.reduce FloatOps.maximumf x v reducesTo_S4096x4096_S4096_d1 h_S_) main_v218 main_cst_64
  let main_v220 : FVec F S4096x1 .f32 := broadcastInDim S4096x1 ![0] bcast_S4096_S4096x1_0 main_v219
  fn_part12 (F := F) main_arg3 main_v191 main_v194 main_v197 main_v200 main_v203 main_v206 main_v209 main_v218 main_v220

def fn_part10 {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) (main_v183 : FVec F S2x4096x4096 .f32) : IVec S4096x128 1 × IVec S4096x128 1 × IVec S256x2 1 × IVec S2 1 × IVec S4096x4096 1 × IVec S4096x4096 1 × IVec S4096 1 × IVec S4096 1 :=
  let main_cst_54 : FVec F S_ .f32 := constant S_ .f32 0x00800000#32
  let main_v184 : FVec F S2x4096x4096 .f32 := broadcastInDim S2x4096x4096 ![] bcast_S_S2x4096x4096 main_cst_54
  let main_v185 : FVec F S2x4096x4096 .f32 := addf main_v183 main_v184
  let main_cst_55 : FVec F S_ .f32 := constant S_ .f32 0x00800000#32
  let main_v186 : FVec F S2x4096x4096 .f32 := broadcastInDim S2x4096x4096 ![] bcast_S_S2x4096x4096 main_cst_55
  let main_v187 : FVec F S2x4096x4096 .f32 := maximumf main_v186 main_v185
  let main_v188 : FVec F S2x4096x4096 .f32 := Host.log main_v187
  let main_v189 : FVec F S2x4096x4096 .f32 := Host.negf main_v188
  let main_v190 : FVec F S2x4096x4096 .f32 := Host.log main_v189
  let main_v191 : FVec F S2x4096x4096 .f32 := Host.negf main_v190
  let main_v192 : FVec F S4096x128 .f32 := Host.absf main_arg0
  let main_cst_56 : FVec F S_ .f32 := constant S_ .f32 0x7F800000#32
  let main_v193 : FVec F S4096x128 .f32 := broadcastInDim S4096x128 ![] bcast_S_S4096x128 main_cst_56
  let main_v194 : IVec S4096x128 1 := cmpf .olt main_v192 main_v193
  let main_v195 : FVec F S4096x128 .f32 := Host.absf main_arg1
  let main_cst_57 : FVec F S_ .f32 := constant S_ .f32 0x7F800000#32
  let main_v196 : FVec F S4096x128 .f32 := broadcastInDim S4096x128 ![] bcast_S_S4096x128 main_cst_57
  let main_v197 : IVec S4096x128 1 := cmpf .olt main_v195 main_v196
  let main_v198 : FVec F S256x2 .f32 := Host.absf main_arg4
  let main_cst_58 : FVec F S_ .f32 := constant S_ .f32 0x7F800000#32
  let main_v199 : FVec F S256x2 .f32 := broadcastInDim S256x2 ![] bcast_S_S256x2 main_cst_58
  let main_v200 : IVec S256x2 1 := cmpf .olt main_v198 main_v199
  let main_v201 : FVec F S2 .f32 := Host.absf main_arg5
  let main_cst_59 : FVec F S_ .f32 := constant S_ .f32 0x7F800000#32
  fn_part11 (F := F) main_arg2 main_arg3 main_v191 main_v194 main_v197 main_v200 main_v201 main_cst_59

def fn_part9 {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) (main_v3 : IVec S2x4096x4096 32) (main_v7 : IVec S2x4096x4096 32) (main_v162 : IVec S2x4096x4096 32) (main_v163 : IVec S2x4096x4096 32) (main_v165 : IVec S2x4096x4096 32) : IVec S4096x128 1 × IVec S4096x128 1 × IVec S256x2 1 × IVec S2 1 × IVec S4096x4096 1 × IVec S4096x4096 1 × IVec S4096 1 × IVec S4096 1 :=
  let main_c_49 : IVec S_ 32 := constantI S_ 32 26#32
  let main_v166 : IVec S2x4096x4096 32 := broadcastInDim S2x4096x4096 ![] bcast_S_S2x4096x4096 main_c_49
  let main_v167 : IVec S2x4096x4096 32 := Host.shrui main_v162 main_v166
  let main_v168 : IVec S2x4096x4096 32 := ori main_v165 main_v167
  let main_v169 : IVec S2x4096x4096 32 := xori main_v168 main_v163
  let main_v170 : IVec S2x4096x4096 32 := addi main_v163 main_v7
  let main_c_50 : IVec S_ 32 := constantI S_ 32 5#32
  let main_v171 : IVec S2x4096x4096 32 := broadcastInDim S2x4096x4096 ![] bcast_S_S2x4096x4096 main_c_50
  let main_v172 : IVec S2x4096x4096 32 := addi main_v3 main_v171
  let main_v173 : IVec S2x4096x4096 32 := addi main_v169 main_v172
  let main_v174 : IVec S2x4096x4096 32 := xori main_v170 main_v173
  let main_c_51 : IVec S_ 32 := constantI S_ 32 9#32
  let main_v175 : IVec S2x4096x4096 32 := broadcastInDim S2x4096x4096 ![] bcast_S_S2x4096x4096 main_c_51
  let main_v176 : IVec S2x4096x4096 32 := Host.shrui main_v174 main_v175
  let main_c_52 : IVec S_ 32 := constantI S_ 32 1065353216#32
  let main_v177 : IVec S2x4096x4096 32 := broadcastInDim S2x4096x4096 ![] bcast_S_S2x4096x4096 main_c_52
  let main_v178 : IVec S2x4096x4096 32 := ori main_v176 main_v177
  let main_v179 : FVec F S2x4096x4096 .f32 := bitcastToFloat .f32 main_v178
  let main_cst : FVec F S_ .f32 := constant S_ .f32 0x3F800000#32
  let main_v180 : FVec F S2x4096x4096 .f32 := broadcastInDim S2x4096x4096 ![] bcast_S_S2x4096x4096 main_cst
  let main_v181 : FVec F S2x4096x4096 .f32 := subf main_v179 main_v180
  let main_cst_53 : FVec F S_ .f32 := constant S_ .f32 0x3F800000#32
  let main_v182 : FVec F S2x4096x4096 .f32 := broadcastInDim S2x4096x4096 ![] bcast_S_S2x4096x4096 main_cst_53
  let main_v183 : FVec F S2x4096x4096 .f32 := mulf main_v181 main_v182
  fn_part10 (F := F) main_arg0 main_arg1 main_arg2 main_arg3 main_arg4 main_arg5 main_v183

def fn_part8 {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) (main_v3 : IVec S2x4096x4096 32) (main_v7 : IVec S2x4096x4096 32) (main_v142 : IVec S2x4096x4096 32) (main_v144 : IVec S2x4096x4096 32) (main_v146 : IVec S2x4096x4096 32) : IVec S4096x128 1 × IVec S4096x128 1 × IVec S256x2 1 × IVec S2 1 × IVec S4096x4096 1 × IVec S4096x4096 1 × IVec S4096 1 × IVec S4096 1 :=
  let main_v147 : IVec S2x4096x4096 32 := ori main_v144 main_v146
  let main_v148 : IVec S2x4096x4096 32 := xori main_v147 main_v142
  let main_v149 : IVec S2x4096x4096 32 := addi main_v142 main_v148
  let main_c_44 : IVec S_ 32 := constantI S_ 32 15#32
  let main_v150 : IVec S2x4096x4096 32 := broadcastInDim S2x4096x4096 ![] bcast_S_S2x4096x4096 main_c_44
  let main_v151 : IVec S2x4096x4096 32 := Host.shli main_v148 main_v150
  let main_c_45 : IVec S_ 32 := constantI S_ 32 17#32
  let main_v152 : IVec S2x4096x4096 32 := broadcastInDim S2x4096x4096 ![] bcast_S_S2x4096x4096 main_c_45
  let main_v153 : IVec S2x4096x4096 32 := Host.shrui main_v148 main_v152
  let main_v154 : IVec S2x4096x4096 32 := ori main_v151 main_v153
  let main_v155 : IVec S2x4096x4096 32 := xori main_v154 main_v149
  let main_v156 : IVec S2x4096x4096 32 := addi main_v149 main_v155
  let main_c_46 : IVec S_ 32 := constantI S_ 32 26#32
  let main_v157 : IVec S2x4096x4096 32 := broadcastInDim S2x4096x4096 ![] bcast_S_S2x4096x4096 main_c_46
  let main_v158 : IVec S2x4096x4096 32 := Host.shli main_v155 main_v157
  let main_c_47 : IVec S_ 32 := constantI S_ 32 6#32
  let main_v159 : IVec S2x4096x4096 32 := broadcastInDim S2x4096x4096 ![] bcast_S_S2x4096x4096 main_c_47
  let main_v160 : IVec S2x4096x4096 32 := Host.shrui main_v155 main_v159
  let main_v161 : IVec S2x4096x4096 32 := ori main_v158 main_v160
  let main_v162 : IVec S2x4096x4096 32 := xori main_v161 main_v156
  let main_v163 : IVec S2x4096x4096 32 := addi main_v156 main_v162
  let main_c_48 : IVec S_ 32 := constantI S_ 32 6#32
  let main_v164 : IVec S2x4096x4096 32 := broadcastInDim S2x4096x4096 ![] bcast_S_S2x4096x4096 main_c_48
  let main_v165 : IVec S2x4096x4096 32 := Host.shli main_v162 main_v164
  fn_part9 (F := F) main_arg0 main_arg1 main_arg2 main_arg3 main_arg4 main_arg5 main_v3 main_v7 main_v162 main_v163 main_v165

def fn_part7 {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) (main_v3 : IVec S2x4096x4096 32) (main_v4 : IVec S2x4096x4096 32) (main_v7 : IVec S2x4096x4096 32) (main_v123 : IVec S2x4096x4096 32) (main_v124 : IVec S2x4096x4096 32) (main_v126 : IVec S2x4096x4096 32) (main_v127 : IVec S2x4096x4096 32) : IVec S4096x128 1 × IVec S4096x128 1 × IVec S256x2 1 × IVec S2 1 × IVec S4096x4096 1 × IVec S4096x4096 1 × IVec S4096 1 × IVec S4096 1 :=
  let main_v128 : IVec S2x4096x4096 32 := Host.shrui main_v123 main_v127
  let main_v129 : IVec S2x4096x4096 32 := ori main_v126 main_v128
  let main_v130 : IVec S2x4096x4096 32 := xori main_v129 main_v124
  let main_v131 : IVec S2x4096x4096 32 := addi main_v124 main_v130
  let main_c_39 : IVec S_ 32 := constantI S_ 32 24#32
  let main_v132 : IVec S2x4096x4096 32 := broadcastInDim S2x4096x4096 ![] bcast_S_S2x4096x4096 main_c_39
  let main_v133 : IVec S2x4096x4096 32 := Host.shli main_v130 main_v132
  let main_c_40 : IVec S_ 32 := constantI S_ 32 8#32
  let main_v134 : IVec S2x4096x4096 32 := broadcastInDim S2x4096x4096 ![] bcast_S_S2x4096x4096 main_c_40
  let main_v135 : IVec S2x4096x4096 32 := Host.shrui main_v130 main_v134
  let main_v136 : IVec S2x4096x4096 32 := ori main_v133 main_v135
  let main_v137 : IVec S2x4096x4096 32 := xori main_v136 main_v131
  let main_v138 : IVec S2x4096x4096 32 := addi main_v131 main_v4
  let main_c_41 : IVec S_ 32 := constantI S_ 32 4#32
  let main_v139 : IVec S2x4096x4096 32 := broadcastInDim S2x4096x4096 ![] bcast_S_S2x4096x4096 main_c_41
  let main_v140 : IVec S2x4096x4096 32 := addi main_v7 main_v139
  let main_v141 : IVec S2x4096x4096 32 := addi main_v137 main_v140
  let main_v142 : IVec S2x4096x4096 32 := addi main_v138 main_v141
  let main_c_42 : IVec S_ 32 := constantI S_ 32 13#32
  let main_v143 : IVec S2x4096x4096 32 := broadcastInDim S2x4096x4096 ![] bcast_S_S2x4096x4096 main_c_42
  let main_v144 : IVec S2x4096x4096 32 := Host.shli main_v141 main_v143
  let main_c_43 : IVec S_ 32 := constantI S_ 32 19#32
  let main_v145 : IVec S2x4096x4096 32 := broadcastInDim S2x4096x4096 ![] bcast_S_S2x4096x4096 main_c_43
  let main_v146 : IVec S2x4096x4096 32 := Host.shrui main_v141 main_v145
  fn_part8 (F := F) main_arg0 main_arg1 main_arg2 main_arg3 main_arg4 main_arg5 main_v3 main_v7 main_v142 main_v144 main_v146

def fn_part6 {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) (main_v3 : IVec S2x4096x4096 32) (main_v4 : IVec S2x4096x4096 32) (main_v7 : IVec S2x4096x4096 32) (main_v106 : IVec S2x4096x4096 32) (main_v109 : IVec S2x4096x4096 32) : IVec S4096x128 1 × IVec S4096x128 1 × IVec S256x2 1 × IVec S2 1 × IVec S4096x4096 1 × IVec S4096x4096 1 × IVec S4096 1 × IVec S4096 1 :=
  let main_v110 : IVec S2x4096x4096 32 := addi main_v106 main_v109
  let main_c_33 : IVec S_ 32 := constantI S_ 32 17#32
  let main_v111 : IVec S2x4096x4096 32 := broadcastInDim S2x4096x4096 ![] bcast_S_S2x4096x4096 main_c_33
  let main_v112 : IVec S2x4096x4096 32 := Host.shli main_v109 main_v111
  let main_c_34 : IVec S_ 32 := constantI S_ 32 15#32
  let main_v113 : IVec S2x4096x4096 32 := broadcastInDim S2x4096x4096 ![] bcast_S_S2x4096x4096 main_c_34
  let main_v114 : IVec S2x4096x4096 32 := Host.shrui main_v109 main_v113
  let main_v115 : IVec S2x4096x4096 32 := ori main_v112 main_v114
  let main_v116 : IVec S2x4096x4096 32 := xori main_v115 main_v110
  let main_v117 : IVec S2x4096x4096 32 := addi main_v110 main_v116
  let main_c_35 : IVec S_ 32 := constantI S_ 32 29#32
  let main_v118 : IVec S2x4096x4096 32 := broadcastInDim S2x4096x4096 ![] bcast_S_S2x4096x4096 main_c_35
  let main_v119 : IVec S2x4096x4096 32 := Host.shli main_v116 main_v118
  let main_c_36 : IVec S_ 32 := constantI S_ 32 3#32
  let main_v120 : IVec S2x4096x4096 32 := broadcastInDim S2x4096x4096 ![] bcast_S_S2x4096x4096 main_c_36
  let main_v121 : IVec S2x4096x4096 32 := Host.shrui main_v116 main_v120
  let main_v122 : IVec S2x4096x4096 32 := ori main_v119 main_v121
  let main_v123 : IVec S2x4096x4096 32 := xori main_v122 main_v117
  let main_v124 : IVec S2x4096x4096 32 := addi main_v117 main_v123
  let main_c_37 : IVec S_ 32 := constantI S_ 32 16#32
  let main_v125 : IVec S2x4096x4096 32 := broadcastInDim S2x4096x4096 ![] bcast_S_S2x4096x4096 main_c_37
  let main_v126 : IVec S2x4096x4096 32 := Host.shli main_v123 main_v125
  let main_c_38 : IVec S_ 32 := constantI S_ 32 16#32
  let main_v127 : IVec S2x4096x4096 32 := broadcastInDim S2x4096x4096 ![] bcast_S_S2x4096x4096 main_c_38
  fn_part7 (F := F) main_arg0 main_arg1 main_arg2 main_arg3 main_arg4 main_arg5 main_v3 main_v4 main_v7 main_v123 main_v124 main_v126 main_v127

def fn_part5 {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) (main_v3 : IVec S2x4096x4096 32) (main_v4 : IVec S2x4096x4096 32) (main_v7 : IVec S2x4096x4096 32) (main_v85 : IVec S2x4096x4096 32) (main_v90 : IVec S2x4096x4096 32) : IVec S4096x128 1 × IVec S4096x128 1 × IVec S256x2 1 × IVec S2 1 × IVec S4096x4096 1 × IVec S4096x4096 1 × IVec S4096 1 × IVec S4096 1 :=
  let main_v91 : IVec S2x4096x4096 32 := xori main_v90 main_v85
  let main_v92 : IVec S2x4096x4096 32 := addi main_v85 main_v91
  let main_c_28 : IVec S_ 32 := constantI S_ 32 26#32
  let main_v93 : IVec S2x4096x4096 32 := broadcastInDim S2x4096x4096 ![] bcast_S_S2x4096x4096 main_c_28
  let main_v94 : IVec S2x4096x4096 32 := Host.shli main_v91 main_v93
  let main_c_29 : IVec S_ 32 := constantI S_ 32 6#32
  let main_v95 : IVec S2x4096x4096 32 := broadcastInDim S2x4096x4096 ![] bcast_S_S2x4096x4096 main_c_29
  let main_v96 : IVec S2x4096x4096 32 := Host.shrui main_v91 main_v95
  let main_v97 : IVec S2x4096x4096 32 := ori main_v94 main_v96
  let main_v98 : IVec S2x4096x4096 32 := xori main_v97 main_v92
  let main_v99 : IVec S2x4096x4096 32 := addi main_v92 main_v98
  let main_c_30 : IVec S_ 32 := constantI S_ 32 6#32
  let main_v100 : IVec S2x4096x4096 32 := broadcastInDim S2x4096x4096 ![] bcast_S_S2x4096x4096 main_c_30
  let main_v101 : IVec S2x4096x4096 32 := Host.shli main_v98 main_v100
  let main_c_31 : IVec S_ 32 := constantI S_ 32 26#32
  let main_v102 : IVec S2x4096x4096 32 := broadcastInDim S2x4096x4096 ![] bcast_S_S2x4096x4096 main_c_31
  let main_v103 : IVec S2x4096x4096 32 := Host.shrui main_v98 main_v102
  let main_v104 : IVec S2x4096x4096 32 := ori main_v101 main_v103
  let main_v105 : IVec S2x4096x4096 32 := xori main_v104 main_v99
  let main_v106 : IVec S2x4096x4096 32 := addi main_v99 main_v3
  let main_c_32 : IVec S_ 32 := constantI S_ 32 3#32
  let main_v107 : IVec S2x4096x4096 32 := broadcastInDim S2x4096x4096 ![] bcast_S_S2x4096x4096 main_c_32
  let main_v108 : IVec S2x4096x4096 32 := addi main_v4 main_v107
  let main_v109 : IVec S2x4096x4096 32 := addi main_v105 main_v108
  fn_part6 (F := F) main_arg0 main_arg1 main_arg2 main_arg3 main_arg4 main_arg5 main_v3 main_v4 main_v7 main_v106 main_v109

def fn_part4 {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) (main_v3 : IVec S2x4096x4096 32) (main_v4 : IVec S2x4096x4096 32) (main_v7 : IVec S2x4096x4096 32) (main_v67 : IVec S2x4096x4096 32) (main_v69 : IVec S2x4096x4096 32) (main_v71 : IVec S2x4096x4096 32) : IVec S4096x128 1 × IVec S4096x128 1 × IVec S256x2 1 × IVec S2 1 × IVec S4096x4096 1 × IVec S4096x4096 1 × IVec S4096 1 × IVec S4096 1 :=
  let main_v72 : IVec S2x4096x4096 32 := ori main_v69 main_v71
  let main_v73 : IVec S2x4096x4096 32 := xori main_v72 main_v67
  let main_v74 : IVec S2x4096x4096 32 := addi main_v67 main_v7
  let main_c_23 : IVec S_ 32 := constantI S_ 32 2#32
  let main_v75 : IVec S2x4096x4096 32 := broadcastInDim S2x4096x4096 ![] bcast_S_S2x4096x4096 main_c_23
  let main_v76 : IVec S2x4096x4096 32 := addi main_v3 main_v75
  let main_v77 : IVec S2x4096x4096 32 := addi main_v73 main_v76
  let main_v78 : IVec S2x4096x4096 32 := addi main_v74 main_v77
  let main_c_24 : IVec S_ 32 := constantI S_ 32 13#32
  let main_v79 : IVec S2x4096x4096 32 := broadcastInDim S2x4096x4096 ![] bcast_S_S2x4096x4096 main_c_24
  let main_v80 : IVec S2x4096x4096 32 := Host.shli main_v77 main_v79
  let main_c_25 : IVec S_ 32 := constantI S_ 32 19#32
  let main_v81 : IVec S2x4096x4096 32 := broadcastInDim S2x4096x4096 ![] bcast_S_S2x4096x4096 main_c_25
  let main_v82 : IVec S2x4096x4096 32 := Host.shrui main_v77 main_v81
  let main_v83 : IVec S2x4096x4096 32 := ori main_v80 main_v82
  let main_v84 : IVec S2x4096x4096 32 := xori main_v83 main_v78
  let main_v85 : IVec S2x4096x4096 32 := addi main_v78 main_v84
  let main_c_26 : IVec S_ 32 := constantI S_ 32 15#32
  let main_v86 : IVec S2x4096x4096 32 := broadcastInDim S2x4096x4096 ![] bcast_S_S2x4096x4096 main_c_26
  let main_v87 : IVec S2x4096x4096 32 := Host.shli main_v84 main_v86
  let main_c_27 : IVec S_ 32 := constantI S_ 32 17#32
  let main_v88 : IVec S2x4096x4096 32 := broadcastInDim S2x4096x4096 ![] bcast_S_S2x4096x4096 main_c_27
  let main_v89 : IVec S2x4096x4096 32 := Host.shrui main_v84 main_v88
  let main_v90 : IVec S2x4096x4096 32 := ori main_v87 main_v89
  fn_part5 (F := F) main_arg0 main_arg1 main_arg2 main_arg3 main_arg4 main_arg5 main_v3 main_v4 main_v7 main_v85 main_v90

def fn_part3 {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) (main_v3 : IVec S2x4096x4096 32) (main_v4 : IVec S2x4096x4096 32) (main_v7 : IVec S2x4096x4096 32) (main_v52 : IVec S2x4096x4096 32) (main_v53 : IVec S2x4096x4096 32) : IVec S4096x128 1 × IVec S4096x128 1 × IVec S256x2 1 × IVec S2 1 × IVec S4096x4096 1 × IVec S4096x4096 1 × IVec S4096 1 × IVec S4096 1 :=
  let main_c_17 : IVec S_ 32 := constantI S_ 32 29#32
  let main_v54 : IVec S2x4096x4096 32 := broadcastInDim S2x4096x4096 ![] bcast_S_S2x4096x4096 main_c_17
  let main_v55 : IVec S2x4096x4096 32 := Host.shli main_v52 main_v54
  let main_c_18 : IVec S_ 32 := constantI S_ 32 3#32
  let main_v56 : IVec S2x4096x4096 32 := broadcastInDim S2x4096x4096 ![] bcast_S_S2x4096x4096 main_c_18
  let main_v57 : IVec S2x4096x4096 32 := Host.shrui main_v52 main_v56
  let main_v58 : IVec S2x4096x4096 32 := ori main_v55 main_v57
  let main_v59 : IVec S2x4096x4096 32 := xori main_v58 main_v53
  let main_v60 : IVec S2x4096x4096 32 := addi main_v53 main_v59
  let main_c_19 : IVec S_ 32 := constantI S_ 32 16#32
  let main_v61 : IVec S2x4096x4096 32 := broadcastInDim S2x4096x4096 ![] bcast_S_S2x4096x4096 main_c_19
  let main_v62 : IVec S2x4096x4096 32 := Host.shli main_v59 main_v61
  let main_c_20 : IVec S_ 32 := constantI S_ 32 16#32
  let main_v63 : IVec S2x4096x4096 32 := broadcastInDim S2x4096x4096 ![] bcast_S_S2x4096x4096 main_c_20
  let main_v64 : IVec S2x4096x4096 32 := Host.shrui main_v59 main_v63
  let main_v65 : IVec S2x4096x4096 32 := ori main_v62 main_v64
  let main_v66 : IVec S2x4096x4096 32 := xori main_v65 main_v60
  let main_v67 : IVec S2x4096x4096 32 := addi main_v60 main_v66
  let main_c_21 : IVec S_ 32 := constantI S_ 32 24#32
  let main_v68 : IVec S2x4096x4096 32 := broadcastInDim S2x4096x4096 ![] bcast_S_S2x4096x4096 main_c_21
  let main_v69 : IVec S2x4096x4096 32 := Host.shli main_v66 main_v68
  let main_c_22 : IVec S_ 32 := constantI S_ 32 8#32
  let main_v70 : IVec S2x4096x4096 32 := broadcastInDim S2x4096x4096 ![] bcast_S_S2x4096x4096 main_c_22
  let main_v71 : IVec S2x4096x4096 32 := Host.shrui main_v66 main_v70
  fn_part4 (F := F) main_arg0 main_arg1 main_arg2 main_arg3 main_arg4 main_arg5 main_v3 main_v4 main_v7 main_v67 main_v69 main_v71

def fn_part2 {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) (main_v3 : IVec S2x4096x4096 32) (main_v4 : IVec S2x4096x4096 32) (main_v7 : IVec S2x4096x4096 32) (main_v28 : IVec S2x4096x4096 32) (main_v34 : IVec S2x4096x4096 32) : IVec S4096x128 1 × IVec S4096x128 1 × IVec S256x2 1 × IVec S2 1 × IVec S4096x4096 1 × IVec S4096x4096 1 × IVec S4096 1 × IVec S4096 1 :=
  let main_v35 : IVec S2x4096x4096 32 := addi main_v28 main_v34
  let main_c_12 : IVec S_ 32 := constantI S_ 32 6#32
  let main_v36 : IVec S2x4096x4096 32 := broadcastInDim S2x4096x4096 ![] bcast_S_S2x4096x4096 main_c_12
  let main_v37 : IVec S2x4096x4096 32 := Host.shli main_v34 main_v36
  let main_c_13 : IVec S_ 32 := constantI S_ 32 26#32
  let main_v38 : IVec S2x4096x4096 32 := broadcastInDim S2x4096x4096 ![] bcast_S_S2x4096x4096 main_c_13
  let main_v39 : IVec S2x4096x4096 32 := Host.shrui main_v34 main_v38
  let main_v40 : IVec S2x4096x4096 32 := ori main_v37 main_v39
  let main_v41 : IVec S2x4096x4096 32 := xori main_v40 main_v35
  let main_v42 : IVec S2x4096x4096 32 := addi main_v35 main_v4
  let main_c_14 : IVec S_ 32 := constantI S_ 32 1#32
  let main_v43 : IVec S2x4096x4096 32 := broadcastInDim S2x4096x4096 ![] bcast_S_S2x4096x4096 main_c_14
  let main_v44 : IVec S2x4096x4096 32 := addi main_v7 main_v43
  let main_v45 : IVec S2x4096x4096 32 := addi main_v41 main_v44
  let main_v46 : IVec S2x4096x4096 32 := addi main_v42 main_v45
  let main_c_15 : IVec S_ 32 := constantI S_ 32 17#32
  let main_v47 : IVec S2x4096x4096 32 := broadcastInDim S2x4096x4096 ![] bcast_S_S2x4096x4096 main_c_15
  let main_v48 : IVec S2x4096x4096 32 := Host.shli main_v45 main_v47
  let main_c_16 : IVec S_ 32 := constantI S_ 32 15#32
  let main_v49 : IVec S2x4096x4096 32 := broadcastInDim S2x4096x4096 ![] bcast_S_S2x4096x4096 main_c_16
  let main_v50 : IVec S2x4096x4096 32 := Host.shrui main_v45 main_v49
  let main_v51 : IVec S2x4096x4096 32 := ori main_v48 main_v50
  let main_v52 : IVec S2x4096x4096 32 := xori main_v51 main_v46
  let main_v53 : IVec S2x4096x4096 32 := addi main_v46 main_v52
  fn_part3 (F := F) main_arg0 main_arg1 main_arg2 main_arg3 main_arg4 main_arg5 main_v3 main_v4 main_v7 main_v52 main_v53

def fn_part1 {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) (main_v3 : IVec S2x4096x4096 32) (main_v4 : IVec S2x4096x4096 32) (main_v7 : IVec S2x4096x4096 32) (main_v13 : IVec S2x4096x4096 32) (main_v14 : IVec S2x4096x4096 32) (main_v15 : IVec S2x4096x4096 32) : IVec S4096x128 1 × IVec S4096x128 1 × IVec S256x2 1 × IVec S2 1 × IVec S4096x4096 1 × IVec S4096x4096 1 × IVec S4096 1 × IVec S4096 1 :=
  let main_v16 : IVec S2x4096x4096 32 := Host.shli main_v13 main_v15
  let main_c_7 : IVec S_ 32 := constantI S_ 32 19#32
  let main_v17 : IVec S2x4096x4096 32 := broadcastInDim S2x4096x4096 ![] bcast_S_S2x4096x4096 main_c_7
  let main_v18 : IVec S2x4096x4096 32 := Host.shrui main_v13 main_v17
  let main_v19 : IVec S2x4096x4096 32 := ori main_v16 main_v18
  let main_v20 : IVec S2x4096x4096 32 := xori main_v19 main_v14
  let main_v21 : IVec S2x4096x4096 32 := addi main_v14 main_v20
  let main_c_8 : IVec S_ 32 := constantI S_ 32 15#32
  let main_v22 : IVec S2x4096x4096 32 := broadcastInDim S2x4096x4096 ![] bcast_S_S2x4096x4096 main_c_8
  let main_v23 : IVec S2x4096x4096 32 := Host.shli main_v20 main_v22
  let main_c_9 : IVec S_ 32 := constantI S_ 32 17#32
  let main_v24 : IVec S2x4096x4096 32 := broadcastInDim S2x4096x4096 ![] bcast_S_S2x4096x4096 main_c_9
  let main_v25 : IVec S2x4096x4096 32 := Host.shrui main_v20 main_v24
  let main_v26 : IVec S2x4096x4096 32 := ori main_v23 main_v25
  let main_v27 : IVec S2x4096x4096 32 := xori main_v26 main_v21
  let main_v28 : IVec S2x4096x4096 32 := addi main_v21 main_v27
  let main_c_10 : IVec S_ 32 := constantI S_ 32 26#32
  let main_v29 : IVec S2x4096x4096 32 := broadcastInDim S2x4096x4096 ![] bcast_S_S2x4096x4096 main_c_10
  let main_v30 : IVec S2x4096x4096 32 := Host.shli main_v27 main_v29
  let main_c_11 : IVec S_ 32 := constantI S_ 32 6#32
  let main_v31 : IVec S2x4096x4096 32 := broadcastInDim S2x4096x4096 ![] bcast_S_S2x4096x4096 main_c_11
  let main_v32 : IVec S2x4096x4096 32 := Host.shrui main_v27 main_v31
  let main_v33 : IVec S2x4096x4096 32 := ori main_v30 main_v32
  let main_v34 : IVec S2x4096x4096 32 := xori main_v33 main_v28
  fn_part2 (F := F) main_arg0 main_arg1 main_arg2 main_arg3 main_arg4 main_arg5 main_v3 main_v4 main_v7 main_v28 main_v34

def fn {F : FTy → Type} [FloatOps F] (main_arg0 : FVec F S4096x128 .f32) (main_arg1 : FVec F S4096x128 .f32) (main_arg2 : FVec F S4096x4096 .f32) (main_arg3 : FVec F S4096x4096 .f32) (main_arg4 : FVec F S256x2 .f32) (main_arg5 : FVec F S2 .f32) : IVec S4096x128 1 × IVec S4096x128 1 × IVec S256x2 1 × IVec S2 1 × IVec S4096x4096 1 × IVec S4096x4096 1 × IVec S4096 1 × IVec S4096 1 :=
  let main_v0 : IVec S2x4096x4096 32 := iotaInDim S2x4096x4096 32 0
  let main_c : IVec S_ 32 := constantI S_ 32 0#32
  let main_v1 : IVec S2x4096x4096 32 := broadcastInDim S2x4096x4096 ![] bcast_S_S2x4096x4096 main_c
  let main_v2 : IVec S2x4096x4096 1 := cmpi .eq main_v0 main_v1
  let main_c_0 : IVec S_ 32 := constantI S_ 32 969380169#32
  let main_c_1 : IVec S_ 32 := constantI S_ 32 2095235069#32
  let main_v3 : IVec S2x4096x4096 32 := fn_where (F := F) main_v2 main_c_0 main_c_1
  let main_c_2 : IVec S_ 32 := constantI S_ 32 3408994049#32
  let main_c_3 : IVec S_ 32 := constantI S_ 32 2959038751#32
  let main_v4 : IVec S2x4096x4096 32 := fn_where (F := F) main_v2 main_c_2 main_c_3
  let main_v5 : IVec S2x4096x4096 32 := xori main_v3 main_v4
  let main_c_4 : IVec S_ 32 := constantI S_ 32 466688986#32
  let main_v6 : IVec S2x4096x4096 32 := broadcastInDim S2x4096x4096 ![] bcast_S_S2x4096x4096 main_c_4
  let main_v7 : IVec S2x4096x4096 32 := xori main_v5 main_v6
  let main_v8 : IVec S2x4096x4096 32 := iotaInDim S2x4096x4096 32 1
  let main_c_5 : IVec S_ 32 := constantI S_ 32 4096#32
  let main_v9 : IVec S2x4096x4096 32 := broadcastInDim S2x4096x4096 ![] bcast_S_S2x4096x4096 main_c_5
  let main_v10 : IVec S2x4096x4096 32 := muli main_v8 main_v9
  let main_v11 : IVec S2x4096x4096 32 := iotaInDim S2x4096x4096 32 2
  let main_v12 : IVec S2x4096x4096 32 := addi main_v10 main_v11
  let main_v13 : IVec S2x4096x4096 32 := addi main_v12 main_v4
  let main_v14 : IVec S2x4096x4096 32 := addi main_v3 main_v13
  let main_c_6 : IVec S_ 32 := constantI S_ 32 13#32
  let main_v15 : IVec S2x4096x4096 32 := broadcastInDim S2x4096x4096 ![] bcast_S_S2x4096x4096 main_c_6
  fn_part1 (F := F) main_arg0 main_arg1 main_arg2 main_arg3 main_arg4 main_arg5 main_v3 main_v4 main_v7 main_v13 main_v14 main_v15
-- ==== Kernel.lean ====
abbrev S4096x128 : Shape := ⟨2, ![4096, 128]⟩
abbrev S4096x4096 : Shape := ⟨2, ![4096, 4096]⟩
abbrev S256x2 : Shape := ⟨2, ![256, 2]⟩
abbrev S2 : Shape := ⟨1, ![2]⟩
abbrev S2x4096x4096 : Shape := ⟨3, ![2, 4096, 4096]⟩
abbrev S_ : Shape := ⟨0, ![]⟩
abbrev S1x4096x4096 : Shape := ⟨3, ![1, 4096, 4096]⟩
abbrev S1x2 : Shape := ⟨2, ![1, 2]⟩
abbrev S1x1 : Shape := ⟨2, ![1, 1]⟩
abbrev S256x4096 : Shape := ⟨2, ![256, 4096]⟩
abbrev S4096x2 : Shape := ⟨2, ![4096, 2]⟩
abbrev S1 : Shape := ⟨1, ![1]⟩
abbrev S128x2 : Shape := ⟨2, ![128, 2]⟩
abbrev S256 : Shape := ⟨1, ![256]⟩
abbrev S256x1 : Shape := ⟨2, ![256, 1]⟩
abbrev S1x256x1 : Shape := ⟨3, ![1, 256, 1]⟩
abbrev S1x1x1 : Shape := ⟨3, ![1, 1, 1]⟩

abbrev nBuf : Space → Nat
  | .hbm => 213
  | .vmem => 16
  | .smem => 2
  | _ => 0

abbrev hbmTy0_0 (i : Nat) : BufTy := match i % 128 with
  | 0 => ⟨S4096x128, .f32⟩
  | 1 => ⟨S4096x128, .f32⟩
  | 2 => ⟨S4096x4096, .f32⟩
  | 3 => ⟨S4096x4096, .f32⟩
  | 4 => ⟨S256x2, .f32⟩
  | 5 => ⟨S2, .f32⟩
  | 6 => ⟨S2x4096x4096, .i32⟩
  | 7 => ⟨S_, .i32⟩
  | 8 => ⟨S2x4096x4096, .i32⟩
  | 9 => ⟨S2x4096x4096, .i1⟩
  | 10 => ⟨S_, .i32⟩
  | 11 => ⟨S_, .i32⟩
  | 12 => ⟨S2x4096x4096, .i32⟩
  | 13 => ⟨S2x4096x4096, .i32⟩
  | 14 => ⟨S2x4096x4096, .i32⟩
  | 15 => ⟨S_, .i32⟩
  | 16 => ⟨S_, .i32⟩
  | 17 => ⟨S2x4096x4096, .i32⟩
  | 18 => ⟨S2x4096x4096, .i32⟩
  | 19 => ⟨S2x4096x4096, .i32⟩
  | 20 => ⟨S2x4096x4096, .i32⟩
  | 21 => ⟨S_, .i32⟩
  | 22 => ⟨S2x4096x4096, .i32⟩
  | 23 => ⟨S2x4096x4096, .i32⟩
  | 24 => ⟨S_, .i32⟩
  | 25 => ⟨S2x4096x4096, .i32⟩
  | 26 => ⟨S_, .i32⟩
  | 27 => ⟨S2x4096x4096, .i32⟩
  | 28 => ⟨S_, .i32⟩
  | 29 => ⟨S2x4096x4096, .i32⟩
  | 30 => ⟨S_, .i32⟩
  | 31 => ⟨S2x4096x4096, .i32⟩
  | 32 => ⟨S_, .i32⟩
  | 33 => ⟨S2x4096x4096, .i32⟩
  | 34 => ⟨S_, .i32⟩
  | 35 => ⟨S2x4096x4096, .i32⟩
  | 36 => ⟨S_, .i32⟩
  | 37 => ⟨S2x4096x4096, .i32⟩
  | 38 => ⟨S_, .i32⟩
  | 39 => ⟨S2x4096x4096, .i32⟩
  | 40 => ⟨S_, .i32⟩
  | 41 => ⟨S2x4096x4096, .i32⟩
  | 42 => ⟨S_, .i32⟩
  | 43 => ⟨S2x4096x4096, .i32⟩
  | 44 => ⟨S_, .i32⟩
  | 45 => ⟨S2x4096x4096, .i32⟩
  | 46 => ⟨S2x4096x4096, .i32⟩
  | 47 => ⟨S2x4096x4096, .i32⟩
  | 48 => ⟨S_, .i32⟩
  | 49 => ⟨S2x4096x4096, .i32⟩
  | 50 => ⟨S2x4096x4096, .i32⟩
  | 51 => ⟨S2x4096x4096, .i32⟩
  | 52 => ⟨S2x4096x4096, .i32⟩
  | 53 => ⟨S2x4096x4096, .i32⟩
  | 54 => ⟨S2x4096x4096, .i32⟩
  | 55 => ⟨S2x4096x4096, .i32⟩
  | 56 => ⟨S2x4096x4096, .i32⟩
  | 57 => ⟨S2x4096x4096, .i32⟩
  | 58 => ⟨S2x4096x4096, .i32⟩
  | 59 => ⟨S2x4096x4096, .i32⟩
  | 60 => ⟨S2x4096x4096, .i32⟩
  | 61 => ⟨S2x4096x4096, .i32⟩
  | 62 => ⟨S2x4096x4096, .i32⟩
  | 63 => ⟨S2x4096x4096, .i32⟩
  | 64 => ⟨S2x4096x4096, .i32⟩
  | 65 => ⟨S2x4096x4096, .i32⟩
  | 66 => ⟨S2x4096x4096, .i32⟩
  | 67 => ⟨S2x4096x4096, .i32⟩
  | 68 => ⟨S2x4096x4096, .i32⟩
  | 69 => ⟨S2x4096x4096, .i32⟩
  | 70 => ⟨S2x4096x4096, .i32⟩
  | 71 => ⟨S2x4096x4096, .i32⟩
  | 72 => ⟨S2x4096x4096, .i32⟩
  | 73 => ⟨S2x4096x4096, .i32⟩
  | 74 => ⟨S_, .i32⟩
  | 75 => ⟨S2x4096x4096, .i32⟩
  | 76 => ⟨S2x4096x4096, .i32⟩
  | 77 => ⟨S2x4096x4096, .i32⟩
  | 78 => ⟨S2x4096x4096, .i32⟩
  | 79 => ⟨S2x4096x4096, .i32⟩
  | 80 => ⟨S2x4096x4096, .i32⟩
  | 81 => ⟨S2x4096x4096, .i32⟩
  | 82 => ⟨S2x4096x4096, .i32⟩
  | 83 => ⟨S2x4096x4096, .i32⟩
  | 84 => ⟨S2x4096x4096, .i32⟩
  | 85 => ⟨S2x4096x4096, .i32⟩
  | 86 => ⟨S2x4096x4096, .i32⟩
  | 87 => ⟨S2x4096x4096, .i32⟩
  | 88 => ⟨S2x4096x4096, .i32⟩
  | 89 => ⟨S2x4096x4096, .i32⟩
  | 90 => ⟨S2x4096x4096, .i32⟩
  | 91 => ⟨S2x4096x4096, .i32⟩
  | 92 => ⟨S2x4096x4096, .i32⟩
  | 93 => ⟨S2x4096x4096, .i32⟩
  | 94 => ⟨S2x4096x4096, .i32⟩
  | 95 => ⟨S2x4096x4096, .i32⟩
  | 96 => ⟨S2x4096x4096, .i32⟩
  | 97 => ⟨S2x4096x4096, .i32⟩
  | 98 => ⟨S2x4096x4096, .i32⟩
  | 99 => ⟨S_, .i32⟩
  | 100 => ⟨S2x4096x4096, .i32⟩
  | 101 => ⟨S2x4096x4096, .i32⟩
  | 102 => ⟨S2x4096x4096, .i32⟩
  | 103 => ⟨S2x4096x4096, .i32⟩
  | 104 => ⟨S2x4096x4096, .i32⟩
  | 105 => ⟨S2x4096x4096, .i32⟩
  | 106 => ⟨S2x4096x4096, .i32⟩
  | 107 => ⟨S2x4096x4096, .i32⟩
  | 108 => ⟨S2x4096x4096, .i32⟩
  | 109 => ⟨S2x4096x4096, .i32⟩
  | 110 => ⟨S2x4096x4096, .i32⟩
  | 111 => ⟨S2x4096x4096, .i32⟩
  | 112 => ⟨S2x4096x4096, .i32⟩
  | 113 => ⟨S2x4096x4096, .i32⟩
  | 114 => ⟨S2x4096x4096, .i32⟩
  | 115 => ⟨S2x4096x4096, .i32⟩
  | 116 => ⟨S2x4096x4096, .i32⟩
  | 117 => ⟨S2x4096x4096, .i32⟩
  | 118 => ⟨S2x4096x4096, .i32⟩
  | 119 => ⟨S2x4096x4096, .i32⟩
  | 120 => ⟨S2x4096x4096, .i32⟩
  | 121 => ⟨S2x4096x4096, .i32⟩
  | 122 => ⟨S2x4096x4096, .i32⟩
  | 123 => ⟨S2x4096x4096, .i32⟩
  | 124 => ⟨S_, .i32⟩
  | 125 => ⟨S2x4096x4096, .i32⟩
  | 126 => ⟨S2x4096x4096, .i32⟩
  | 127 => ⟨S2x4096x4096, .i32⟩
  | _ => ⟨S4096x128, .f32⟩

abbrev hbmTy0_1 (i : Nat) : BufTy := match i % 128 with
  | 0 => ⟨S2x4096x4096, .i32⟩
  | 1 => ⟨S2x4096x4096, .i32⟩
  | 2 => ⟨S2x4096x4096, .i32⟩
  | 3 => ⟨S2x4096x4096, .i32⟩
  | 4 => ⟨S2x4096x4096, .i32⟩
  | 5 => ⟨S2x4096x4096, .i32⟩
  | 6 => ⟨S2x4096x4096, .i32⟩
  | 7 => ⟨S2x4096x4096, .i32⟩
  | 8 => ⟨S2x4096x4096, .i32⟩
  | 9 => ⟨S2x4096x4096, .i32⟩
  | 10 => ⟨S2x4096x4096, .i32⟩
  | 11 => ⟨S2x4096x4096, .i32⟩
  | 12 => ⟨S2x4096x4096, .i32⟩
  | 13 => ⟨S2x4096x4096, .i32⟩
  | 14 => ⟨S2x4096x4096, .i32⟩
  | 15 => ⟨S2x4096x4096, .i32⟩
  | 16 => ⟨S2x4096x4096, .i32⟩
  | 17 => ⟨S2x4096x4096, .i32⟩
  | 18 => ⟨S2x4096x4096, .i32⟩
  | 19 => ⟨S2x4096x4096, .i32⟩
  | 20 => ⟨S2x4096x4096, .i32⟩
  | 21 => ⟨S_, .i32⟩
  | 22 => ⟨S2x4096x4096, .i32⟩
  | 23 => ⟨S2x4096x4096, .i32⟩
  | 24 => ⟨S2x4096x4096, .i32⟩
  | 25 => ⟨S2x4096x4096, .i32⟩
  | 26 => ⟨S2x4096x4096, .i32⟩
  | 27 => ⟨S2x4096x4096, .i32⟩
  | 28 => ⟨S2x4096x4096, .i32⟩
  | 29 => ⟨S2x4096x4096, .i32⟩
  | 30 => ⟨S2x4096x4096, .i32⟩
  | 31 => ⟨S2x4096x4096, .i32⟩
  | 32 => ⟨S2x4096x4096, .i32⟩
  | 33 => ⟨S2x4096x4096, .i32⟩
  | 34 => ⟨S2x4096x4096, .i32⟩
  | 35 => ⟨S2x4096x4096, .i32⟩
  | 36 => ⟨S2x4096x4096, .i32⟩
  | 37 => ⟨S2x4096x4096, .i32⟩
  | 38 => ⟨S2x4096x4096, .i32⟩
  | 39 => ⟨S2x4096x4096, .i32⟩
  | 40 => ⟨S2x4096x4096, .i32⟩
  | 41 => ⟨S2x4096x4096, .i32⟩
  | 42 => ⟨S2x4096x4096, .i32⟩
  | 43 => ⟨S2x4096x4096, .i32⟩
  | 44 => ⟨S2x4096x4096, .i32⟩
  | 45 => ⟨S2x4096x4096, .i32⟩
  | 46 => ⟨S_, .i32⟩
  | 47 => ⟨S2x4096x4096, .i32⟩
  | 48 => ⟨S2x4096x4096, .i32⟩
  | 49 => ⟨S2x4096x4096, .i32⟩
  | 50 => ⟨S2x4096x4096, .i32⟩
  | 51 => ⟨S_, .i32⟩
  | 52 => ⟨S2x4096x4096, .i32⟩
  | 53 => ⟨S2x4096x4096, .i32⟩
  | 54 => ⟨S_, .i32⟩
  | 55 => ⟨S2x4096x4096, .i32⟩
  | 56 => ⟨S2x4096x4096, .i32⟩
  | 57 => ⟨S2x4096x4096, .f32⟩
  | 58 => ⟨S_, .f32⟩
  | 59 => ⟨S2x4096x4096, .f32⟩
  | 60 => ⟨S2x4096x4096, .f32⟩
  | 61 => ⟨S_, .f32⟩
  | 62 => ⟨S2x4096x4096, .f32⟩
  | 63 => ⟨S2x4096x4096, .f32⟩
  | 64 => ⟨S_, .f32⟩
  | 65 => ⟨S2x4096x4096, .f32⟩
  | 66 => ⟨S2x4096x4096, .f32⟩
  | 67 => ⟨S_, .f32⟩
  | 68 => ⟨S2x4096x4096, .f32⟩
  | 69 => ⟨S2x4096x4096, .f32⟩
  | 70 => ⟨S2x4096x4096, .f32⟩
  | 71 => ⟨S2x4096x4096, .f32⟩
  | 72 => ⟨S2x4096x4096, .f32⟩
  | 73 => ⟨S2x4096x4096, .f32⟩
  | 74 => ⟨S2x4096x4096, .i1⟩
  | 75 => ⟨S_, .f32⟩
  | 76 => ⟨S2x4096x4096, .f32⟩
  | 77 => ⟨S2x4096x4096, .f32⟩
  | 78 => ⟨S2x4096x4096, .bf16⟩
  | 79 => ⟨S1x4096x4096, .bf16⟩
  | 80 => ⟨S4096x4096, .bf16⟩
  | 81 => ⟨S1x4096x4096, .bf16⟩
  | 82 => ⟨S4096x4096, .bf16⟩
  | 83 => ⟨S1x2, .f32⟩
  | 84 => ⟨S1x1, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S4096x128, .f32⟩
  | .local _ .vmem, ⟨9, _⟩ => ⟨S4096x128, .f32⟩
  | .local _ .vmem, ⟨10, _⟩ => ⟨S256x2, .f32⟩
  | .local _ .vmem, ⟨11, _⟩ => ⟨S1x2, .f32⟩
  | .local _ .vmem, ⟨12, _⟩ => ⟨S4096x2, .f32⟩
  | .local _ .vmem, ⟨13, _⟩ => ⟨S4096x2, .f32⟩
  | .local _ .vmem, ⟨14, _⟩ => ⟨S4096x2, .bf16⟩
  | .local _ .vmem, ⟨15, _⟩ => ⟨S4096x2, .bf16⟩
  | .local _ .smem, ⟨0, _⟩ => ⟨S1x1, .f32⟩
  | .local _ .smem, ⟨1, _⟩ => ⟨S1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_v3 : Ref sig .tc := ⟨.hbm, 14, rfl⟩
abbrev main_c_2 : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_v4 : Ref sig .tc := ⟨.hbm, 19, rfl⟩
abbrev main_v5 : Ref sig .tc := ⟨.hbm, 20, rfl⟩
abbrev main_c_4 : Ref sig .tc := ⟨.hbm, 21, rfl⟩
abbrev main_v6 : Ref sig .tc := ⟨.hbm, 22, rfl⟩
abbrev main_v7 : Ref sig .tc := ⟨.hbm, 23, rfl⟩
abbrev main_c_5 : Ref sig .tc := ⟨.hbm, 24, rfl⟩
abbrev main_v8 : Ref sig .tc := ⟨.hbm, 25, rfl⟩
abbrev main_c_6 : Ref sig .tc := ⟨.hbm, 26, rfl⟩
abbrev main_v9 : Ref sig .tc := ⟨.hbm, 27, rfl⟩
abbrev main_c_7 : Ref sig .tc := ⟨.hbm, 28, rfl⟩
abbrev main_v10 : Ref sig .tc := ⟨.hbm, 29, rfl⟩
abbrev main_c_8 : Ref sig .tc := ⟨.hbm, 30, rfl⟩
abbrev main_v11 : Ref sig .tc := ⟨.hbm, 31, rfl⟩
abbrev main_c_9 : Ref sig .tc := ⟨.hbm, 32, rfl⟩
abbrev main_v12 : Ref sig .tc := ⟨.hbm, 33, rfl⟩
abbrev main_c_10 : Ref sig .tc := ⟨.hbm, 34, rfl⟩
abbrev main_v13 : Ref sig .tc := ⟨.hbm, 35, rfl⟩
abbrev main_c_11 : Ref sig .tc := ⟨.hbm, 36, rfl⟩
abbrev main_v14 : Ref sig .tc := ⟨.hbm, 37, rfl⟩
abbrev main_c_12 : Ref sig .tc := ⟨.hbm, 38, rfl⟩
abbrev main_v15 : Ref sig .tc := ⟨.hbm, 39, rfl⟩
abbrev main_c_13 : Ref sig .tc := ⟨.hbm, 40, rfl⟩
abbrev main_v16 : Ref sig .tc := ⟨.hbm, 41, rfl⟩
abbrev main_c_14 : Ref sig .tc := ⟨.hbm, 42, rfl⟩
abbrev main_v17 : Ref sig .tc := ⟨.hbm, 43, rfl⟩
abbrev main_c_15 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_16 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_17 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_18 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_19 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_c_20 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_c_21 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_c_22 : Ref sig .tc := ⟨.hbm, 179, rfl⟩
abbrev main_v146 : Ref sig .tc := ⟨.hbm, 180, rfl⟩
abbrev main_v147 : Ref sig .tc := ⟨.hbm, 181, rfl⟩
abbrev main_c_23 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst : Ref sig .tc := ⟨.hbm, 186, rfl⟩
abbrev main_v151 : Ref sig .tc := ⟨.hbm, 187, rfl⟩
abbrev main_v152 : Ref sig .tc := ⟨.hbm, 188, rfl⟩
abbrev main_cst_24 : Ref sig .tc := ⟨.hbm, 189, rfl⟩
abbrev main_v153 : Ref sig .tc := ⟨.hbm, 190, rfl⟩
abbrev main_v154 : Ref sig .tc := ⟨.hbm, 191, rfl⟩
abbrev main_cst_25 : Ref sig .tc := ⟨.hbm, 192, rfl⟩
abbrev main_v155 : Ref sig .tc := ⟨.hbm, 193, rfl⟩
abbrev main_v156 : Ref sig .tc := ⟨.hbm, 194, rfl⟩
abbrev main_cst_26 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_cst_27 : Ref sig .tc := ⟨.hbm, 203, rfl⟩
abbrev main_call2_v0 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg8_0 : Ref sig .tc := ⟨.smem, 0, rfl⟩
abbrev cc0_scratch4 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v31 : BitVec 32 := Scalar.muli arg0 c256_i32
  let v32 : Index := Scalar.indexCast v31
  let c0_15 : Index := 0#32
  ![v32.toNat, 0]
def k0_cond2 (i : grid0.Coords) : BitVec 1 :=
  let arg0 : BitVec 32 := BitVec.ofNat 32 (i 0).val
  let c15_i32 : BitVec 32 := 15#32
  let v97 : BitVec 1 := Scalar.cmpi .eq arg0 c15_i32
  let v98 : BitVec 32 := Scalar.extui v97
  let c0_i32_30 : BitVec 32 := 0#32
  let v99 : BitVec 1 := Scalar.cmpi .ne v98 c0_i32_30
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x128 : Shape := ⟨2, ![4096, 128]⟩
abbrev S4096x4096 : Shape := ⟨2, ![4096, 4096]⟩
abbrev S256x2 : Shape := ⟨2, ![256, 2]⟩
abbrev S2 : Shape := ⟨1, ![2]⟩
abbrev S_ : Shape := ⟨0, ![]⟩
abbrev S4096 : Shape := ⟨1, ![4096]⟩
abbrev S4096x1 : Shape := ⟨2, ![4096, 1]⟩
abbrev S2x4096x4096 : Shape := ⟨3, ![2, 4096, 4096]⟩
abbrev S1x4096x4096 : Shape := ⟨3, ![1, 4096, 4096]⟩
abbrev S4096x256 : Shape := ⟨2, ![4096, 256]⟩
abbrev S1 : Shape := ⟨1, ![1]⟩
abbrev S1x1 : Shape := ⟨2, ![1, 1]⟩
abbrev S12288x256 : Shape := ⟨2, ![12288, 256]⟩
abbrev S12288x2 : Shape := ⟨2, ![12288, 2]⟩
abbrev S1x2 : Shape := ⟨2, ![1, 2]⟩
abbrev S12288 : Shape := ⟨1, ![12288]⟩
abbrev S12288x1 : Shape := ⟨2, ![12288, 1]⟩
abbrev S12288x1x1 : Shape := ⟨3, ![12288, 1, 1]⟩
abbrev S1x1x1 : Shape := ⟨3, ![1, 1, 1]⟩

abbrev nBuf : Space → Nat
  | .hbm => 442
  | .vmem => 0
  | .smem => 0
  | _ => 0

abbrev hbmTy0_0 (i : Nat) : BufTy := match i % 128 with
  | 0 => ⟨S4096x128, .f32⟩
  | 1 => ⟨S4096x128, .f32⟩
  | 2 => ⟨S4096x4096, .f32⟩
  | 3 => ⟨S4096x4096, .f32⟩
  | 4 => ⟨S256x2, .f32⟩
  | 5 => ⟨S2, .f32⟩
  | 6 => ⟨S_, .f32⟩
  | 7 => ⟨S4096, .f32⟩
  | 8 => ⟨S_, .f32⟩
  | 9 => ⟨S4096, .f32⟩
  | 10 => ⟨S4096, .f32⟩
  | 11 => ⟨S4096x1, .f32⟩
  | 12 => ⟨S4096x4096, .f32⟩
  | 13 => ⟨S4096x4096, .f32⟩
  | 14 => ⟨S4096x4096, .f32⟩
  | 15 => ⟨S_, .f32⟩
  | 16 => ⟨S4096, .f32⟩
  | 17 => ⟨S4096x1, .f32⟩
  | 18 => ⟨S4096x4096, .f32⟩
  | 19 => ⟨S4096x4096, .f32⟩
  | 20 => ⟨S_, .f32⟩
  | 21 => ⟨S4096, .f32⟩
  | 22 => ⟨S_, .f32⟩
  | 23 => ⟨S4096, .f32⟩
  | 24 => ⟨S4096, .f32⟩
  | 25 => ⟨S4096x1, .f32⟩
  | 26 => ⟨S4096x4096, .f32⟩
  | 27 => ⟨S4096x4096, .f32⟩
  | 28 => ⟨S4096x4096, .f32⟩
  | 29 => ⟨S_, .f32⟩
  | 30 => ⟨S4096, .f32⟩
  | 31 => ⟨S4096x1, .f32⟩
  | 32 => ⟨S4096x4096, .f32⟩
  | 33 => ⟨S4096x4096, .f32⟩
  | 34 => ⟨S4096x4096, .i32⟩
  | 35 => ⟨S4096x4096, .i32⟩
  | 36 => ⟨S_, .i32⟩
  | 37 => ⟨S4096x4096, .i32⟩
  | 38 => ⟨S4096x4096, .i32⟩
  | 39 => ⟨S4096x4096, .i1⟩
  | 40 => ⟨S_, .f32⟩
  | 41 => ⟨S_, .f32⟩
  | 42 => ⟨S4096x4096, .f32⟩
  | 43 => ⟨S4096x4096, .f32⟩
  | 44 => ⟨S_, .f32⟩
  | 45 => ⟨S_, .f32⟩
  | 46 => ⟨S4096x4096, .f32⟩
  | 47 => ⟨S4096x4096, .f32⟩
  | 48 => ⟨S_, .f32⟩
  | 49 => ⟨S4096x4096, .f32⟩
  | 50 => ⟨S4096x4096, .i1⟩
  | 51 => ⟨S_, .f32⟩
  | 52 => ⟨S4096x4096, .f32⟩
  | 53 => ⟨S4096x4096, .f32⟩
  | 54 => ⟨S4096x4096, .f32⟩
  | 55 => ⟨S_, .f32⟩
  | 56 => ⟨S_, .f32⟩
  | 57 => ⟨S4096x4096, .f32⟩
  | 58 => ⟨S4096x4096, .f32⟩
  | 59 => ⟨S_, .f32⟩
  | 60 => ⟨S4096x4096, .f32⟩
  | 61 => ⟨S4096x4096, .i1⟩
  | 62 => ⟨S_, .f32⟩
  | 63 => ⟨S4096x4096, .f32⟩
  | 64 => ⟨S4096x4096, .f32⟩
  | 65 => ⟨S4096x4096, .f32⟩
  | 66 => ⟨S_, .f32⟩
  | 67 => ⟨S_, .f32⟩
  | 68 => ⟨S4096x4096, .f32⟩
  | 69 => ⟨S4096x4096, .f32⟩
  | 70 => ⟨S2x4096x4096, .i32⟩
  | 71 => ⟨S_, .i32⟩
  | 72 => ⟨S2x4096x4096, .i32⟩
  | 73 => ⟨S2x4096x4096, .i1⟩
  | 74 => ⟨S_, .i32⟩
  | 75 => ⟨S_, .i32⟩
  | 76 => ⟨S2x4096x4096, .i32⟩
  | 77 => ⟨S2x4096x4096, .i32⟩
  | 78 => ⟨S2x4096x4096, .i32⟩
  | 79 => ⟨S_, .i32⟩
  | 80 => ⟨S_, .i32⟩
  | 81 => ⟨S2x4096x4096, .i32⟩
  | 82 => ⟨S2x4096x4096, .i32⟩
  | 83 => ⟨S2x4096x4096, .i32⟩
  | 84 => ⟨S2x4096x4096, .i32⟩
  | 85 => ⟨S_, .i32⟩
  | 86 => ⟨S2x4096x4096, .i32⟩
  | 87 => ⟨S2x4096x4096, .i32⟩
  | 88 => ⟨S2x4096x4096, .i32⟩
  | 89 => ⟨S_, .i32⟩
  | 90 => ⟨S2x4096x4096, .i32⟩
  | 91 => ⟨S2x4096x4096, .i32⟩
  | 92 => ⟨S2x4096x4096, .i32⟩
  | 93 => ⟨S2x4096x4096, .i32⟩
  | 94 => ⟨S2x4096x4096, .i32⟩
  | 95 => ⟨S2x4096x4096, .i32⟩
  | 96 => ⟨S_, .i32⟩
  | 97 => ⟨S2x4096x4096, .i32⟩
  | 98 => ⟨S2x4096x4096, .i32⟩
  | 99 => ⟨S_, .i32⟩
  | 100 => ⟨S2x4096x4096, .i32⟩
  | 101 => ⟨S2x4096x4096, .i32⟩
  | 102 => ⟨S2x4096x4096, .i32⟩
  | 103 => ⟨S2x4096x4096, .i32⟩
  | 104 => ⟨S2x4096x4096, .i32⟩
  | 105 => ⟨S_, .i32⟩
  | 106 => ⟨S2x4096x4096, .i32⟩
  | 107 => ⟨S2x4096x4096, .i32⟩
  | 108 => ⟨S_, .i32⟩
  | 109 => ⟨S2x4096x4096, .i32⟩
  | 110 => ⟨S2x4096x4096, .i32⟩
  | 111 => ⟨S2x4096x4096, .i32⟩
  | 112 => ⟨S2x4096x4096, .i32⟩
  | 113 => ⟨S2x4096x4096, .i32⟩
  | 114 => ⟨S_, .i32⟩
  | 115 => ⟨S2x4096x4096, .i32⟩
  | 116 => ⟨S2x4096x4096, .i32⟩
  | 117 => ⟨S_, .i32⟩
  | 118 => ⟨S2x4096x4096, .i32⟩
  | 119 => ⟨S2x4096x4096, .i32⟩
  | 120 => ⟨S2x4096x4096, .i32⟩
  | 121 => ⟨S2x4096x4096, .i32⟩
  | 122 => ⟨S2x4096x4096, .i32⟩
  | 123 => ⟨S_, .i32⟩
  | 124 => ⟨S2x4096x4096, .i32⟩
  | 125 => ⟨S2x4096x4096, .i32⟩
  | 126 => ⟨S_, .i32⟩
  | 127 => ⟨S2x4096x4096, .i32⟩
  | _ => ⟨S4096x128, .f32⟩

abbrev hbmTy0_1 (i : Nat) : BufTy := match i % 128 with
  | 0 => ⟨S2x4096x4096, .i32⟩
  | 1 => ⟨S2x4096x4096, .i32⟩
  | 2 => ⟨S2x4096x4096, .i32⟩
  | 3 => ⟨S2x4096x4096, .i32⟩
  | 4 => ⟨S_, .i32⟩
  | 5 => ⟨S2x4096x4096, .i32⟩
  | 6 => ⟨S2x4096x4096, .i32⟩
  | 7 => ⟨S2x4096x4096, .i32⟩
  | 8 => ⟨S2x4096x4096, .i32⟩
  | 9 => ⟨S_, .i32⟩
  | 10 => ⟨S2x4096x4096, .i32⟩
  | 11 => ⟨S2x4096x4096, .i32⟩
  | 12 => ⟨S_, .i32⟩
  | 13 => ⟨S2x4096x4096, .i32⟩
  | 14 => ⟨S2x4096x4096, .i32⟩
  | 15 => ⟨S2x4096x4096, .i32⟩
  | 16 => ⟨S2x4096x4096, .i32⟩
  | 17 => ⟨S2x4096x4096, .i32⟩
  | 18 => ⟨S_, .i32⟩
  | 19 => ⟨S2x4096x4096, .i32⟩
  | 20 => ⟨S2x4096x4096, .i32⟩
  | 21 => ⟨S_, .i32⟩
  | 22 => ⟨S2x4096x4096, .i32⟩
  | 23 => ⟨S2x4096x4096, .i32⟩
  | 24 => ⟨S2x4096x4096, .i32⟩
  | 25 => ⟨S2x4096x4096, .i32⟩
  | 26 => ⟨S2x4096x4096, .i32⟩
  | 27 => ⟨S_, .i32⟩
  | 28 => ⟨S2x4096x4096, .i32⟩
  | 29 => ⟨S2x4096x4096, .i32⟩
  | 30 => ⟨S_, .i32⟩
  | 31 => ⟨S2x4096x4096, .i32⟩
  | 32 => ⟨S2x4096x4096, .i32⟩
  | 33 => ⟨S2x4096x4096, .i32⟩
  | 34 => ⟨S2x4096x4096, .i32⟩
  | 35 => ⟨S2x4096x4096, .i32⟩
  | 36 => ⟨S_, .i32⟩
  | 37 => ⟨S2x4096x4096, .i32⟩
  | 38 => ⟨S2x4096x4096, .i32⟩
  | 39 => ⟨S_, .i32⟩
  | 40 => ⟨S2x4096x4096, .i32⟩
  | 41 => ⟨S2x4096x4096, .i32⟩
  | 42 => ⟨S2x4096x4096, .i32⟩
  | 43 => ⟨S2x4096x4096, .i32⟩
  | 44 => ⟨S2x4096x4096, .i32⟩
  | 45 => ⟨S_, .i32⟩
  | 46 => ⟨S2x4096x4096, .i32⟩
  | 47 => ⟨S2x4096x4096, .i32⟩
  | 48 => ⟨S2x4096x4096, .i32⟩
  | 49 => ⟨S2x4096x4096, .i32⟩
  | 50 => ⟨S_, .i32⟩
  | 51 => ⟨S2x4096x4096, .i32⟩
  | 52 => ⟨S2x4096x4096, .i32⟩
  | 53 => ⟨S_, .i32⟩
  | 54 => ⟨S2x4096x4096, .i32⟩
  | 55 => ⟨S2x4096x4096, .i32⟩
  | 56 => ⟨S2x4096x4096, .i32⟩
  | 57 => ⟨S2x4096x4096, .i32⟩
  | 58 => ⟨S2x4096x4096, .i32⟩
  | 59 => ⟨S_, .i32⟩
  | 60 => ⟨S2x4096x4096, .i32⟩
  | 61 => ⟨S2x4096x4096, .i32⟩
  | 62 => ⟨S_, .i32⟩
  | 63 => ⟨S2x4096x4096, .i32⟩
  | 64 => ⟨S2x4096x4096, .i32⟩
  | 65 => ⟨S2x4096x4096, .i32⟩
  | 66 => ⟨S2x4096x4096, .i32⟩
  | 67 => ⟨S2x4096x4096, .i32⟩
  | 68 => ⟨S_, .i32⟩
  | 69 => ⟨S2x4096x4096, .i32⟩
  | 70 => ⟨S2x4096x4096, .i32⟩
  | 71 => ⟨S_, .i32⟩
  | 72 => ⟨S2x4096x4096, .i32⟩
  | 73 => ⟨S2x4096x4096, .i32⟩
  | 74 => ⟨S2x4096x4096, .i32⟩
  | 75 => ⟨S2x4096x4096, .i32⟩
  | 76 => ⟨S2x4096x4096, .i32⟩
  | 77 => ⟨S_, .i32⟩
  | 78 => ⟨S2x4096x4096, .i32⟩
  | 79 => ⟨S2x4096x4096, .i32⟩
  | 80 => ⟨S_, .i32⟩
  | 81 => ⟨S2x4096x4096, .i32⟩
  | 82 => ⟨S2x4096x4096, .i32⟩
  | 83 => ⟨S2x4096x4096, .i32⟩
  | 84 => ⟨S2x4096x4096, .i32⟩
  | 85 => ⟨S2x4096x4096, .i32⟩
  | 86 => ⟨S_, .i32⟩
  | 87 => ⟨S2x4096x4096, .i32⟩
  | 88 => ⟨S2x4096x4096, .i32⟩
  | 89 => ⟨S2x4096x4096, .i32⟩
  | 90 => ⟨S2x4096x4096, .i32⟩
  | 91 => ⟨S_, .i32⟩
  | 92 => ⟨S2x4096x4096, .i32⟩
  | 93 => ⟨S2x4096x4096, .i32⟩
  | 94 => ⟨S_, .i32⟩
  | 95 => ⟨S2x4096x4096, .i32⟩
  | 96 => ⟨S2x4096x4096, .i32⟩
  | 97 => ⟨S2x4096x4096, .i32⟩
  | 98 => ⟨S2x4096x4096, .i32⟩
  | 99 => ⟨S2x4096x4096, .i32⟩
  | 100 => ⟨S_, .i32⟩
  | 101 => ⟨S2x4096x4096, .i32⟩
  | 102 => ⟨S2x4096x4096, .i32⟩
  | 103 => ⟨S_, .i32⟩
  | 104 => ⟨S2x4096x4096, .i32⟩
  | 105 => ⟨S2x4096x4096, .i32⟩
  | 106 => ⟨S2x4096x4096, .i32⟩
  | 107 => ⟨S2x4096x4096, .i32⟩
  | 108 => ⟨S2x4096x4096, .i32⟩
  | 109 => ⟨S_, .i32⟩
  | 110 => ⟨S2x4096x4096, .i32⟩
  | 111 => ⟨S2x4096x4096, .i32⟩
  | 112 => ⟨S_, .i32⟩
  | 113 => ⟨S2x4096x4096, .i32⟩
  | 114 => ⟨S2x4096x4096, .i32⟩
  | 115 => ⟨S2x4096x4096, .i32⟩
  | 116 => ⟨S2x4096x4096, .i32⟩
  | 117 => ⟨S2x4096x4096, .i32⟩
  | 118 => ⟨S_, .i32⟩
  | 119 => ⟨S2x4096x4096, .i32⟩
  | 120 => ⟨S2x4096x4096, .i32⟩
  | 121 => ⟨S_, .i32⟩
  | 122 => ⟨S2x4096x4096, .i32⟩
  | 123 => ⟨S2x4096x4096, .i32⟩
  | 124 => ⟨S2x4096x4096, .i32⟩
  | 125 => ⟨S2x4096x4096, .i32⟩
  | 126 => ⟨S2x4096x4096, .i32⟩
  | 127 => ⟨S_, .i32⟩
  | _ => ⟨S4096x128, .f32⟩

abbrev hbmTy0_2 (i : Nat) : BufTy := match i % 128 with
  | 0 => ⟨S2x4096x4096, .i32⟩
  | 1 => ⟨S2x4096x4096, .i32⟩
  | 2 => ⟨S2x4096x4096, .i32⟩
  | 3 => ⟨S2x4096x4096, .i32⟩
  | 4 => ⟨S_, .i32⟩
  | 5 => ⟨S2x4096x4096, .i32⟩
  | 6 => ⟨S2x4096x4096, .i32⟩
  | 7 => ⟨S_, .i32⟩
  | 8 => ⟨S2x4096x4096, .i32⟩
  | 9 => ⟨S2x4096x4096, .i32⟩
  | 10 => ⟨S2x4096x4096, .i32⟩
  | 11 => ⟨S2x4096x4096, .i32⟩
  | 12 => ⟨S2x4096x4096, .i32⟩
  | 13 => ⟨S_, .i32⟩
  | 14 => ⟨S2x4096x4096, .i32⟩
  | 15 => ⟨S2x4096x4096, .i32⟩
  | 16 => ⟨S_, .i32⟩
  | 17 => ⟨S2x4096x4096, .i32⟩
  | 18 => ⟨S2x4096x4096, .i32⟩
  | 19 => ⟨S2x4096x4096, .i32⟩
  | 20 => ⟨S2x4096x4096, .i32⟩
  | 21 => ⟨S2x4096x4096, .i32⟩
  | 22 => ⟨S_, .i32⟩
  | 23 => ⟨S2x4096x4096, .i32⟩
  | 24 => ⟨S2x4096x4096, .i32⟩
  | 25 => ⟨S_, .i32⟩
  | 26 => ⟨S2x4096x4096, .i32⟩
  | 27 => ⟨S2x4096x4096, .i32⟩
  | 28 => ⟨S2x4096x4096, .i32⟩
  | 29 => ⟨S2x4096x4096, .i32⟩
  | 30 => ⟨S2x4096x4096, .i32⟩
  | 31 => ⟨S_, .i32⟩
  | 32 => ⟨S2x4096x4096, .i32⟩
  | 33 => ⟨S2x4096x4096, .i32⟩
  | 34 => ⟨S_, .i32⟩
  | 35 => ⟨S2x4096x4096, .i32⟩
  | 36 => ⟨S2x4096x4096, .i32⟩
  | 37 => ⟨S2x4096x4096, .i32⟩
  | 38 => ⟨S2x4096x4096, .i32⟩
  | 39 => ⟨S2x4096x4096, .i32⟩
  | 40 => ⟨S_, .i32⟩
  | 41 => ⟨S2x4096x4096, .i32⟩
  | 42 => ⟨S2x4096x4096, .i32⟩
  | 43 => ⟨S2x4096x4096, .i32⟩
  | 44 => ⟨S2x4096x4096, .i32⟩
  | 45 => ⟨S_, .i32⟩
  | 46 => ⟨S2x4096x4096, .i32⟩
  | 47 => ⟨S2x4096x4096, .i32⟩
  | 48 => ⟨S_, .i32⟩
  | 49 => ⟨S2x4096x4096, .i32⟩
  | 50 => ⟨S2x4096x4096, .i32⟩
  | 51 => ⟨S2x4096x4096, .f32⟩
  | 52 => ⟨S_, .f32⟩
  | 53 => ⟨S2x4096x4096, .f32⟩
  | 54 => ⟨S2x4096x4096, .f32⟩
  | 55 => ⟨S_, .f32⟩
  | 56 => ⟨S2x4096x4096, .f32⟩
  | 57 => ⟨S2x4096x4096, .f32⟩
  | 58 => ⟨S_, .f32⟩
  | 59 => ⟨S2x4096x4096, .f32⟩
  | 60 => ⟨S2x4096x4096, .f32⟩
  | 61 => ⟨S_, .f32⟩
  | 62 => ⟨S2x4096x4096, .f32⟩
  | 63 => ⟨S2x4096x4096, .f32⟩
  | 64 => ⟨S2x4096x4096, .f32⟩
  | 65 => ⟨S2x4096x4096, .f32⟩
  | 66 => ⟨S2x4096x4096, .f32⟩
  | 67 => ⟨S2x4096x4096, .f32⟩
  | 68 => ⟨S1x4096x4096, .f32⟩
  | 69 => ⟨S4096x4096, .f32⟩
  | 70 => ⟨S4096x4096, .f32⟩
  | 71 => ⟨S4096x1, .f32⟩
  | 72 => ⟨S4096x1, .i32⟩
  | 73 => ⟨S4096, .i32⟩
  | 74 => ⟨S1x4096x4096, .f32⟩
  | 75 => ⟨S4096x4096, .f32⟩
  | 76 => ⟨S4096x4096, .f32⟩
  | 77 => ⟨S4096x1, .f32⟩
  | 78 => ⟨S4096x1, .i32⟩
  | 79 => ⟨S4096, .i32⟩
  | 80 => ⟨S4096x256, .f32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S1, .i32⟩
  | 90 => ⟨S_, .i32⟩
  | 91 => ⟨S4096x1, .i32⟩
  | 92 => ⟨S4096x1, .i1⟩
  | 93 => ⟨S1x1, .i32⟩
  | 94 => ⟨S4096x1, .i32⟩
  | 95 => ⟨S4096x1, .i1⟩
  | 96 => ⟨S4096x1, .i1⟩
  | 97 => ⟨S_, .i1⟩
  | 98 => ⟨S4096, .i1⟩
  | 99 => ⟨S4096x128, .f32⟩
  | 100 => ⟨S4096x128, .i1⟩
  | 101 => ⟨S_, .f32⟩
  | 102 => ⟨S4096x128, .f32⟩
  | 103 => ⟨S4096x128, .f32⟩
  | 104 => ⟨S4096x256, .f32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S1, .i32⟩
  | 114 => ⟨S_, .i32⟩
  | 115 => ⟨S4096x1, .i32⟩
  | 116 => ⟨S4096x1, .i1⟩
  | 117 => ⟨S1x1, .i32⟩
  | 118 => ⟨S4096x1, .i32⟩
  | 119 => ⟨S4096x1, .i1⟩
  | 120 => ⟨S4096x1, .i1⟩
  | 121 => ⟨S_, .i1⟩
  | 122 => ⟨S4096, .i1⟩
  | 123 => ⟨S4096x128, .f32⟩
  | 124 => ⟨S4096x128, .i1⟩
  | 125 => ⟨S_, .f32⟩
  | 126 => ⟨S4096x128, .f32⟩
  | 127 => ⟨S4096x128, .f32⟩
  | _ => ⟨S4096x128, .f32⟩

abbrev hbmTy0_3 (i : Nat) : BufTy := match i % 128 with
  | 0 => ⟨S4096x256, .f32⟩
  | 1 => ⟨S12288x256, .f32⟩
  | 2 => ⟨S12288x2, .f32⟩
  | 3 => ⟨S1x2, .f32⟩
  | 4 => ⟨S12288x2, .f32⟩
  | 5 => ⟨S12288x2, .f32⟩
  | 6 => ⟨S_, .i32⟩
  | 7 => ⟨S4096, .i32⟩
  | 8 => ⟨S_, .i32⟩
  | 9 => ⟨S4096, .i32⟩
  | 10 => ⟨S_, .i32⟩
  | 11 => ⟨S4096, .i32⟩
  | 12 => ⟨S12288, .i32⟩
  | 13 => ⟨S_, .f32⟩
  | 14 => ⟨S12288, .f32⟩
  | 15 => ⟨S_, .f32⟩
  | 16 => ⟨S12288, .f32⟩
  | 17 => ⟨S12288, .f32⟩
  | 18 => ⟨S12288x1, .f32⟩
  | 19 => ⟨S12288x2, .f32⟩
  | 20 => ⟨S12288x2, .f32⟩
  | 21 => ⟨S12288x2, .f32⟩
  | 22 => ⟨S_, .f32⟩
  | 23 => ⟨S12288, .f32⟩
  | 24 => ⟨S12288x1, .f32⟩
  | 25 => ⟨S12288x1, .f32⟩
  | 26 => ⟨S12288x2, .f32⟩
  | 27 => ⟨S12288x2, .f32⟩
  | 28 => ⟨S12288x1, .i32⟩
  | 29 => ⟨S_, .i32⟩
  | 30 => ⟨S12288x1, .i32⟩
  | 31 => ⟨S12288x1, .i1⟩
  | 32 => ⟨S_, .i32⟩
  | 33 => ⟨S12288x1, .i32⟩
  | 34 => ⟨S12288x1, .i32⟩
  | 35 => ⟨S12288x1, .i32⟩
  | 36 => ⟨S12288x1x1, .i32⟩
  | 37 => ⟨S1, .i32⟩
  | 38 => ⟨S_, .i32⟩
  | 39 => ⟨S12288x1x1, .i32⟩
  | 40 => ⟨S12288x1x1, .i1⟩
  | 41 => ⟨S1x1x1, .i32⟩
  | 42 => ⟨S12288x1x1, .i32⟩
  | 43 => ⟨S12288x1x1, .i1⟩
  | 44 => ⟨S12288x1x1, .i1⟩
  | 45 => ⟨S_, .i1⟩
  | 46 => ⟨S12288x1, .i1⟩
  | 47 => ⟨S12288x1, .f32⟩
  | 48 => ⟨S_, .f32⟩
  | 49 => ⟨S12288x1, .f32⟩
  | 50 => ⟨S12288x1, .f32⟩
  | 51 => ⟨S12288, .f32⟩
  | 52 => ⟨S12288, .f32⟩
  | 53 => ⟨S_, .f32⟩
  | 54 => ⟨S_, .f32⟩
  | 55 => ⟨S_, .f32⟩
  | 56 => ⟨S_, .f32⟩
  | 57 => ⟨S1x1, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v27 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_call2_v0 : Ref sig .tc := ⟨.hbm, 56, rfl⟩
abbrev main_call2_v1 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_v36 : Ref sig .tc := ⟨.hbm, 61, rfl⟩
abbrev main_cst_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_12 : Ref sig .tc := ⟨.hbm, 66, rfl⟩
abbrev main_call3_v0 : Ref sig .tc := ⟨.hbm, 67, rfl⟩
abbrev main_call3_v1 : Ref sig .tc := ⟨.hbm, 68, rfl⟩
abbrev main_v40 : Ref sig .tc := ⟨.hbm, 69, rfl⟩
abbrev main_v41 : Ref sig .tc := ⟨.hbm, 70, rfl⟩
abbrev main_c_13 : Ref sig .tc := ⟨.hbm, 71, rfl⟩
abbrev main_v42 : Ref sig .tc := ⟨.hbm, 72, rfl⟩
abbrev main_v43 : Ref sig .tc := ⟨.hbm, 73, rfl⟩
abbrev main_c_14 : Ref sig .tc := ⟨.hbm, 74, rfl⟩
abbrev main_c_15 : Ref sig .tc := ⟨.hbm, 75, rfl⟩
abbrev main_call4_v0 : Ref sig .tc := ⟨.hbm, 76, rfl⟩
abbrev main_call4_v1 : Ref sig .tc := ⟨.hbm, 77, rfl⟩
abbrev main_v44 : Ref sig .tc := ⟨.hbm, 78, rfl⟩
abbrev main_c_16 : Ref sig .tc := ⟨.hbm, 79, rfl⟩
abbrev main_c_17 : Ref sig .tc := ⟨.hbm, 80, rfl⟩
abbrev main_call5_v0 : Ref sig .tc := ⟨.hbm, 81, rfl⟩
abbrev main_call5_v1 : Ref sig .tc := ⟨.hbm, 82, rfl⟩
abbrev main_v45 : Ref sig .tc := ⟨.hbm, 83, rfl⟩
abbrev main_v46 : Ref sig .tc := ⟨.hbm, 84, rfl⟩
abbrev main_c_18 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_19 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_20 : Ref sig .tc := ⟨.hbm, 96, rfl⟩
abbrev main_v56 : Ref sig .tc := ⟨.hbm, 97, rfl⟩
abbrev main_v57 : Ref sig .tc := ⟨.hbm, 98, rfl⟩
abbrev main_c_21 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_22 : Ref sig .tc := ⟨.hbm, 105, rfl⟩
abbrev main_v63 : Ref sig .tc := ⟨.hbm, 106, rfl⟩
abbrev main_v64 : Ref sig .tc := ⟨.hbm, 107, rfl⟩
abbrev main_c_23 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_24 : Ref sig .tc := ⟨.hbm, 114, rfl⟩
abbrev main_v70 : Ref sig .tc := ⟨.hbm, 115, rfl⟩
abbrev main_v71 : Ref sig .tc := ⟨.hbm, 116, rfl⟩
abbrev main_c_25 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_26 : Ref sig .tc := ⟨.hbm, 123, rfl⟩
abbrev main_v77 : Ref sig .tc := ⟨.hbm, 124, rfl⟩
abbrev main_v78 : Ref sig .tc := ⟨.hbm, 125, rfl⟩
abbrev main_c_27 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_28 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_c_29 : Ref sig .tc := ⟨.hbm, 137, rfl⟩
abbrev main_v88 : Ref sig .tc := ⟨.hbm, 138, rfl⟩
abbrev main_v89 : Ref sig .tc := ⟨.hbm, 139, rfl⟩
abbrev main_c_30 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_31 : Ref sig .tc := ⟨.hbm, 146, rfl⟩
abbrev main_v95 : Ref sig .tc := ⟨.hbm, 147, rfl⟩
abbrev main_v96 : Ref sig .tc := ⟨.hbm, 148, rfl⟩
abbrev main_c_32 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_c_33 : Ref sig .tc := ⟨.hbm, 155, rfl⟩
abbrev main_v102 : Ref sig .tc := ⟨.hbm, 156, rfl⟩
abbrev main_v103 : Ref sig .tc := ⟨.hbm, 157, rfl⟩
abbrev main_c_34 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_c_35 : Ref sig .tc := ⟨.hbm, 164, rfl⟩
abbrev main_v109 : Ref sig .tc := ⟨.hbm, 165, rfl⟩
abbrev main_v110 : Ref sig .tc := ⟨.hbm, 166, rfl⟩
abbrev main_c_36 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_c_37 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_c_38 : Ref sig .tc := ⟨.hbm, 178, rfl⟩
abbrev main_v120 : Ref sig .tc := ⟨.hbm, 179, rfl⟩
abbrev main_v121 : Ref sig .tc := ⟨.hbm, 180, rfl⟩
abbrev main_c_39 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_c_40 : Ref sig .tc := ⟨.hbm, 187, rfl⟩
abbrev main_v127 : Ref sig .tc := ⟨.hbm, 188, rfl⟩
abbrev main_v128 : Ref sig .tc := ⟨.hbm, 189, rfl⟩
abbrev main_c_41 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_c_42 : Ref sig .tc := ⟨.hbm, 196, rfl⟩
abbrev main_v134 : Ref sig .tc := ⟨.hbm, 197, rfl⟩
abbrev main_v135 : Ref sig .tc := ⟨.hbm, 198, rfl⟩
abbrev main_c_43 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_c_44 : Ref sig .tc := ⟨.hbm, 205, rfl⟩
abbrev main_v141 : Ref sig .tc := ⟨.hbm, 206, rfl⟩
abbrev main_v142 : Ref sig .tc := ⟨.hbm, 207, rfl⟩
abbrev main_c_45 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_c_46 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_c_47 : Ref sig .tc := ⟨.hbm, 219, rfl⟩
abbrev main_v152 : Ref sig .tc := ⟨.hbm, 220, rfl⟩
abbrev main_v153 : Ref sig .tc := ⟨.hbm, 221, rfl⟩
abbrev main_c_48 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_c_49 : Ref sig .tc := ⟨.hbm, 228, rfl⟩
abbrev main_v159 : Ref sig .tc := ⟨.hbm, 229, rfl⟩
abbrev main_v160 : Ref sig .tc := ⟨.hbm, 230, rfl⟩
abbrev main_c_50 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_c_51 : Ref sig .tc := ⟨.hbm, 237, rfl⟩
abbrev main_v166 : Ref sig .tc := ⟨.hbm, 238, rfl⟩
abbrev main_v167 : Ref sig .tc := ⟨.hbm, 239, rfl⟩
abbrev main_c_52 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_c_53 : Ref sig .tc := ⟨.hbm, 246, rfl⟩
abbrev main_v173 : Ref sig .tc := ⟨.hbm, 247, rfl⟩
abbrev main_v174 : Ref sig .tc := ⟨.hbm, 248, rfl⟩
abbrev main_c_54 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_c_55 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_c_56 : Ref sig .tc := ⟨.hbm, 260, rfl⟩
abbrev main_v184 : Ref sig .tc := ⟨.hbm, 261, rfl⟩
abbrev main_v185 : Ref sig .tc := ⟨.hbm, 262, rfl⟩
abbrev main_c_57 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_c_58 : Ref sig .tc := ⟨.hbm, 269, rfl⟩
abbrev main_v191 : Ref sig .tc := ⟨.hbm, 270, rfl⟩
abbrev main_v192 : Ref sig .tc := ⟨.hbm, 271, rfl⟩
abbrev main_c_59 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_c_60 : Ref sig .tc := ⟨.hbm, 278, rfl⟩
abbrev main_v198 : Ref sig .tc := ⟨.hbm, 279, rfl⟩
abbrev main_v199 : Ref sig .tc := ⟨.hbm, 280, rfl⟩
abbrev main_c_61 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_c_62 : Ref sig .tc := ⟨.hbm, 287, rfl⟩
abbrev main_v205 : Ref sig .tc := ⟨.hbm, 288, rfl⟩
abbrev main_v206 : Ref sig .tc := ⟨.hbm, 289, rfl⟩
abbrev main_c_63 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_c_64 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_c_65 : Ref sig .tc := ⟨.hbm, 301, rfl⟩
abbrev main_v216 : Ref sig .tc := ⟨.hbm, 302, rfl⟩
abbrev main_v217 : Ref sig .tc := ⟨.hbm, 303, rfl⟩
abbrev main_c_66 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_cst_67 : Ref sig .tc := ⟨.hbm, 308, rfl⟩
abbrev main_v221 : Ref sig .tc := ⟨.hbm, 309, rfl⟩
abbrev main_v222 : Ref sig .tc := ⟨.hbm, 310, rfl⟩
abbrev main_cst_68 : Ref sig .tc := ⟨.hbm, 311, rfl⟩
abbrev main_v223 : Ref sig .tc := ⟨.hbm, 312, rfl⟩
abbrev main_v224 : Ref sig .tc := ⟨.hbm, 313, rfl⟩
abbrev main_cst_69 : Ref sig .tc := ⟨.hbm, 314, rfl⟩
abbrev main_v225 : Ref sig .tc := ⟨.hbm, 315, rfl⟩
abbrev main_v226 : Ref sig .tc := ⟨.hbm, 316, rfl⟩
abbrev main_cst_70 : Ref sig .tc := ⟨.hbm, 317, rfl⟩
abbrev main_v227 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_values : Ref sig .tc := ⟨.hbm, 327, rfl⟩
abbrev main_indices : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_values_71 : Ref sig .tc := ⟨.hbm, 333, rfl⟩
abbrev main_indices_72 : Ref sig .tc := ⟨.hbm, 334, rfl⟩
abbrev main_v240 : Ref sig .tc := ⟨.hbm, 335, rfl⟩
abbrev main_v241 : Ref sig .tc := ⟨.hbm, 336, rfl⟩
abbrev main_call6_c : Ref sig .tc := ⟨.hbm, 337, rfl⟩
abbrev main_call6_v0 : Ref sig .tc := ⟨.hbm, 338, rfl⟩
abbrev main_call6_v1 : Ref sig .tc := ⟨.hbm, 339, rfl⟩
abbrev main_call6_c_0 : Ref sig .tc := ⟨.hbm, 340, rfl⟩
abbrev main_call6_v2 : Ref sig .tc := ⟨.hbm, 341, rfl⟩
abbrev main_call6_v3 : Ref sig .tc := ⟨.hbm, 342, rfl⟩
abbrev main_call6_v4 : Ref sig .tc := ⟨.hbm, 343, rfl⟩
abbrev main_call6_v5 : Ref sig .tc := ⟨.hbm, 344, rfl⟩
abbrev main_call6_c_1 : Ref sig .tc := ⟨.hbm, 345, rfl⟩
abbrev main_call6_c_2 : Ref sig .tc := ⟨.hbm, 346, rfl⟩
abbrev main_call6_v6 : Ref sig .tc := ⟨.hbm, 347, rfl⟩
abbrev main_call6_v7 : Ref sig .tc := ⟨.hbm, 348, rfl⟩
abbrev main_call6_v8 : Ref sig .tc := ⟨.hbm, 349, rfl⟩
abbrev main_call6_v9 : Ref sig .tc := ⟨.hbm, 350, rfl⟩
abbrev main_call6_v10 : Ref sig .tc := ⟨.hbm, 351, rfl⟩
abbrev main_call6_v11 : Ref sig .tc := ⟨.hbm, 352, rfl⟩
abbrev main_call6_c_3 : Ref sig .tc := ⟨.hbm, 353, rfl⟩
abbrev main_call6_v12 : Ref sig .tc := ⟨.hbm, 354, rfl⟩
abbrev main_call6_v13 : Ref sig .tc := ⟨.hbm, 355, rfl⟩
abbrev main_call6_v14 : Ref sig .tc := ⟨.hbm, 356, rfl⟩
abbrev main_call6_cst : Ref sig .tc := ⟨.hbm, 357, rfl⟩
abbrev main_call6_v15 : Ref sig .tc := ⟨.hbm, 358, rfl⟩
abbrev main_v242 : Ref sig .tc := ⟨.hbm, 359, rfl⟩
abbrev main_v243 : Ref sig .tc := ⟨.hbm, 360, rfl⟩
abbrev main_call7_c : Ref sig .tc := ⟨.hbm, 361, rfl⟩
abbrev main_call7_v0 : Ref sig .tc := ⟨.hbm, 362, rfl⟩
abbrev main_call7_v1 : Ref sig .tc := ⟨.hbm, 363, rfl⟩
abbrev main_call7_c_0 : Ref sig .tc := ⟨.hbm, 364, rfl⟩
abbrev main_call7_v2 : Ref sig .tc := ⟨.hbm, 365, rfl⟩
abbrev main_call7_v3 : Ref sig .tc := ⟨.hbm, 366, rfl⟩
abbrev main_call7_v4 : Ref sig .tc := ⟨.hbm, 367, rfl⟩
abbrev main_call7_v5 : Ref sig .tc := ⟨.hbm, 368, rfl⟩
abbrev main_call7_c_1 : Ref sig .tc := ⟨.hbm, 369, rfl⟩
abbrev main_call7_c_2 : Ref sig .tc := ⟨.hbm, 370, rfl⟩
abbrev main_call7_v6 : Ref sig .tc := ⟨.hbm, 371, rfl⟩
abbrev main_call7_v7 : Ref sig .tc := ⟨.hbm, 372, rfl⟩
abbrev main_call7_v8 : Ref sig .tc := ⟨.hbm, 373, rfl⟩
abbrev main_call7_v9 : Ref sig .tc := ⟨.hbm, 374, rfl⟩
abbrev main_call7_v10 : Ref sig .tc := ⟨.hbm, 375, rfl⟩
abbrev main_call7_v11 : Ref sig .tc := ⟨.hbm, 376, rfl⟩
abbrev main_call7_c_3 : Ref sig .tc := ⟨.hbm, 377, rfl⟩
abbrev main_call7_v12 : Ref sig .tc := ⟨.hbm, 378, rfl⟩
abbrev main_call7_v13 : Ref sig .tc := ⟨.hbm, 379, rfl⟩
abbrev main_call7_v14 : Ref sig .tc := ⟨.hbm, 380, rfl⟩
abbrev main_call7_cst : Ref sig .tc := ⟨.hbm, 381, rfl⟩
abbrev main_call7_v15 : Ref sig .tc := ⟨.hbm, 382, rfl⟩
abbrev main_v244 : Ref sig .tc := ⟨.hbm, 383, rfl⟩
abbrev main_v245 : Ref sig .tc := ⟨.hbm, 384, rfl⟩
abbrev main_v246 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_c_73 : Ref sig .tc := ⟨.hbm, 390, rfl⟩
abbrev main_v251 : Ref sig .tc := ⟨.hbm, 391, rfl⟩
abbrev main_c_74 : Ref sig .tc := ⟨.hbm, 392, rfl⟩
abbrev main_v252 : Ref sig .tc := ⟨.hbm, 393, rfl⟩
abbrev main_c_75 : Ref sig .tc := ⟨.hbm, 394, rfl⟩
abbrev main_v253 : Ref sig .tc := ⟨.hbm, 395, rfl⟩
abbrev main_v254 : Ref sig .tc := ⟨.hbm, 396, rfl⟩
abbrev main_call8_cst : Ref sig .tc := ⟨.hbm, 397, rfl⟩
abbrev main_call8_v0 : Ref sig .tc := ⟨.hbm, 398, rfl⟩
abbrev main_call8_cst_0 : Ref sig .tc := ⟨.hbm, 399, rfl⟩
abbrev main_call8_v1 : Ref sig .tc := ⟨.hbm, 400, rfl⟩
abbrev main_call8_v2 : Ref sig .tc := ⟨.hbm, 401, rfl⟩
abbrev main_call8_v3 : Ref sig .tc := ⟨.hbm, 402, rfl⟩
abbrev main_call8_v4 : Ref sig .tc := ⟨.hbm, 403, rfl⟩
abbrev main_call8_v5 : Ref sig .tc := ⟨.hbm, 404, rfl⟩
abbrev main_call8_v6 : Ref sig .tc := ⟨.hbm, 405, rfl⟩
abbrev main_call8_cst_1 : Ref sig .tc := ⟨.hbm, 406, rfl⟩
abbrev main_call8_v7 : Ref sig .tc := ⟨.hbm, 407, rfl⟩
abbrev main_call8_v8 : Ref sig .tc := ⟨.hbm, 408, rfl⟩
abbrev main_call8_v9 : Ref sig .tc := ⟨.hbm, 409, rfl⟩
abbrev main_call8_v10 : Ref sig .tc := ⟨.hbm, 410, rfl⟩
abbrev main_v255 : Ref sig .tc := ⟨.hbm, 411, rfl⟩
abbrev main_v256 : Ref sig .tc := ⟨.hbm, 412, rfl⟩
abbrev main_call9_c : Ref sig .tc := ⟨.hbm, 413, rfl⟩
abbrev main_call9_v0 : Ref sig .tc := ⟨.hbm, 414, rfl⟩
abbrev main_call9_v1 : Ref sig .tc := ⟨.hbm, 415, rfl⟩
abbrev main_call9_c_0 : Ref sig .tc := ⟨.hbm, 416, rfl⟩
abbrev main_call9_v2 : Ref sig .tc := ⟨.hbm, 417, rfl⟩
abbrev main_call9_v3 : Ref sig .tc := ⟨.hbm, 418, rfl⟩
abbrev main_call9_v4 : Ref sig .tc := ⟨.hbm, 419, rfl⟩
abbrev main_call9_v5 : Ref sig .tc := ⟨.hbm, 420, rfl⟩
abbrev main_call9_c_1 : Ref sig .tc := ⟨.hbm, 421, rfl⟩
abbrev main_call9_c_2 : Ref sig .tc := ⟨.hbm, 422, rfl⟩
abbrev main_call9_v6 : Ref sig .tc := ⟨.hbm, 423, rfl⟩
abbrev main_call9_v7 : Ref sig .tc := ⟨.hbm, 424, rfl⟩
abbrev main_call9_v8 : Ref sig .tc := ⟨.hbm, 425, rfl⟩
abbrev main_call9_v9 : Ref sig .tc := ⟨.hbm, 426, rfl⟩
abbrev main_call9_v10 : Ref sig .tc := ⟨.hbm, 427, rfl⟩
abbrev main_call9_v11 : Ref sig .tc := ⟨.hbm, 428, rfl⟩
abbrev main_call9_c_3 : Ref sig .tc := ⟨.hbm, 429, rfl⟩
abbrev main_call9_v12 : Ref sig .tc := ⟨.hbm, 430, rfl⟩
abbrev main_call9_v13 : Ref sig .tc := ⟨.hbm, 431, rfl⟩
abbrev main_call9_cst : Ref sig .tc := ⟨.hbm, 432, rfl⟩
abbrev main_call9_v14 : Ref sig .tc := ⟨.hbm, 433, rfl⟩
abbrev main_v257 : Ref sig .tc := ⟨.hbm, 434, rfl⟩
abbrev main_v258 : Ref sig .tc := ⟨.hbm, 435, rfl⟩
abbrev main_v259 : Ref sig .tc := ⟨.hbm, 436, rfl⟩
abbrev main_cst_76 : Ref sig .tc := ⟨.hbm, 437, rfl⟩
abbrev main_v260 : Ref sig .tc := ⟨.hbm, 438, rfl⟩
abbrev main_cst_77 : Ref sig .tc := ⟨.hbm, 439, rfl⟩
abbrev main_v261 : Ref sig .tc := ⟨.hbm, 440, rfl⟩
abbrev main_v262 : Ref sig .tc := ⟨.hbm, 441, rfl⟩

abbrev nD : Nat := 1
abbrev τ : Topo := Topo.v7x

variable {F : FTy → Type} [FloatOps F]
-- ==== Proof.KernelBody.lean ====
/-
  What one pass through the kernel's body leaves in the buffers it carries from one grid point to the next.
-/
module

public import proofs.«01_k».proof.Proof.Gen.KernelIdeal.Frame
public import Idealize.ShloMosaic.Lib.Pipeline.Value
public import Idealize.ShloMosaic.Lib.Pointwise.Index

@[expose] public section

set_option maxRecDepth 16384

noncomputable section

namespace Cert.Proof

open Idealize.ShloMosaic Idealize.ShloMosaic.TcCoe Cert.KernelIdeal Cert.KernelIdeal.Gen
open Idealize.SL.Sem

variable {F : FTy → Type} [FloatOps F]

/-- The 256 rows of a scratch array that belong to the current block. -/
abbrev blockRows (i : grid0.Coords) (u : Vec F S4096x2 .f32) : Vec F S256x2 .f32 :=
  View.ld u (Rect.unit (s := S4096x2) (k0_off1 i) S256x2.size (k0_off1_inb i))

/-- The running total after a block, from the total before it. -/
def addBlock (i : grid0.Coords) (x0 : Vec F S256x4096 .f32) (x1 : Vec F S256x4096 .bf16) (x2 : Vec F S256x4096 .f32) (x3 : Vec F S256x4096 .bf16)
    (x7 : Vec F S1x2 .f32) (u v : Vec F S4096x2 .f32) (ub vb : Vec F S4096x2 .bf16) (acc : F .f32) : F .f32 :=
  k0_pay1 acc (k0_pay12 (k0_pay9 x0 x1 vb) (blockRows i u) (blockRows i v) x7) (k0_pay13 (k0_pay10 x2 x3 ub) (blockRows i v) x7)
    (k0_pay14 (k0_pay10 x2 x3 ub) (blockRows i v) x7) (k0_pay15 (k0_pay10 x2 x3 ub) (blockRows i v) x7)

theorem zero2 : (![0, 0] : Fin 2 → Nat) = fun _ => 0 := funext fun a => by fin_cases a <;> rfl
theorem zero1 : (![0] : Fin 1 → Nat) = fun _ => 0 := funext fun a => by fin_cases a <;> rfl

/-- The total's array has one cell. -/
theorem one_cell (i j : S1.Idx) : i = j := funext fun a => by
  fin_cases a
  exact Subsingleton.elim (α := Fin 1) _ _

variable (c : Dev nD) (i : grid0.Coords) (arg1 : Memref sig .tc .vmem S256x4096 .f32) (harg1 : arg1.IsWhole) (arg2 : Memref sig .tc .vmem S256x4096 .bf16) (harg2 : arg2.IsWhole)
  (arg3 : Memref sig .tc .vmem S256x4096 .f32) (harg3 : arg3.IsWhole) (arg4 : Memref sig .tc .vmem S256x4096 .bf16) (harg4 : arg4.IsWhole) (arg5 : Memref sig .tc .vmem S4096x128 .f32) (harg5 : arg5.IsWhole)
  (arg6 : Memref sig .tc .vmem S4096x128 .f32) (harg6 : arg6.IsWhole) (arg7 : Memref sig .tc .vmem S256x2 .f32) (harg7 : arg7.IsWhole) (arg8 : Memref sig .tc .vmem S1x2 .f32) (harg8 : arg8.IsWhole)
  (arg9 : Memref sig .tc .smem S1x1 .f32) (harg9 : arg9.IsWhole) (arg10 : Memref sig .tc .vmem S4096x2 .f32) (harg10 : arg10.IsWhole) (arg11 : Memref sig .tc .vmem S4096x2 .f32) (harg11 : arg11.IsWhole)
  (arg12 : Memref sig .tc .vmem S4096x2 .bf16) (harg12 : arg12.IsWhole) (arg13 : Memref sig .tc .vmem S4096x2 .bf16) (harg13 : arg13.IsWhole) (arg14 : Memref sig .tc .smem S1 .f32) (harg14 : arg14.IsWhole)
  (x0 : Vec F S256x4096 .f32) (x1 : Vec F S256x4096 .bf16) (x2 : Vec F S256x4096 .f32) (x3 : Vec F S256x4096 .bf16) (x4 : Vec F S4096x128 .f32) (x5 : Vec F S4096x128 .f32) (x6 : Vec F S256x2 .f32) (x7 : Vec F S1x2 .f32)
  (xs0 xs1 : Vec F S4096x2 .f32) (xs2 xs3 : Vec F S4096x2 .bf16) (xs4 : Vec F S1 .f32)

/-- At a point neither first nor last the running total grows by the block's. -/
theorem total_between (hc0 : ¬cond0_0 i) (hc1 : ¬cond0_1 i) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7 xs0 xs1 xs2 xs3 xs4
      = fun k => addBlock i x0 x1 x2 x3 x7 xs0 xs1 xs2 xs3 (xs4 k) := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7 xs0 xs1 xs2 xs3 xs4)]
  unfold kernelRun0_B
  dsimp only
  sl_unfold_words
  rw [View.canon_unit_zero zero1]
  simp only [View.readAt_eq_ld, harg1.read_unread, harg2.read_unread, harg3.read_unread, harg4.read_unread, harg8.read_unread, harg10.read_unread, harg11.read_unread,
    harg12.read_unread, harg13.read_unread, harg14.read_unread, View.ld_unit_zero (S := S256x4096) zero2, View.ld_unit_zero (S := S4096x2) zero2, View.ld_unit_zero (S := S1x2) zero2,
    View.ld_unit_zero (S := S1) zero1]
  exact funext fun k => congrArg (fun k => addBlock i x0 x1 x2 x3 x7 xs0 xs1 xs2 xs3 (xs4 k)) (one_cell _ k)

/-- So it does at the last point. -/
theorem total_last (hc0 : ¬cond0_0 i) (hc1 : cond0_1 i) :
    sout0_C_4 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7 xs0 xs1 xs2 xs3 xs4
      = fun k => addBlock i x0 x1 x2 x3 x7 xs0 xs1 xs2 xs3 (xs4 k) := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7 xs0 xs1 xs2 xs3 xs4)]
  unfold kernelRun0_C
  dsimp only
  sl_unfold_words
  rw [View.canon_unit_zero zero1]
  simp only [View.readAt_eq_ld, harg1.read_unread, harg2.read_unread, harg3.read_unread, harg4.read_unread, harg8.read_unread, harg10.read_unread, harg11.read_unread,
    harg12.read_unread, harg13.read_unread, harg14.read_unread, View.ld_unit_zero (S := S256x4096) zero2, View.ld_unit_zero (S := S4096x2) zero2, View.ld_unit_zero (S := S1x2) zero2,
    View.ld_unit_zero (S := S1) zero1]
  exact funext fun k => congrArg (fun k => addBlock i x0 x1 x2 x3 x7 xs0 xs1 xs2 xs3 (xs4 k)) (one_cell _ k)

/-- The last point writes the total's share out. -/
theorem out_last (hc0 : ¬cond0_0 i) (hc1 : cond0_1 i) :
    out0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7 xs0 xs1 xs2 xs3 xs4
      = fun _ => k0_pay2 (addBlock i x0 x1 x2 x3 x7 xs0 xs1 xs2 xs3 (xs4 (ix1 (0 : Fin 1)))) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7 xs0 xs1 xs2 xs3 xs4)]
  unfold kernelRun0_C
  dsimp only
  sl_unfold_words
  rw [View.canon_unit_zero zero2]
  simp only [View.readAt_eq_ld, harg1.read_unread, harg2.read_unread, harg3.read_unread, harg4.read_unread, harg8.read_unread, harg10.read_unread, harg11.read_unread,
    harg12.read_unread, harg13.read_unread, harg14.read_unread, View.ld_unit_zero (S := S256x4096) zero2, View.ld_unit_zero (S := S4096x2) zero2, View.ld_unit_zero (S := S1x2) zero2,
    View.ld_unit_zero (S := S1) zero1]
  exact funext fun k => congrArg (fun k => k0_pay2 (addBlock i x0 x1 x2 x3 x7 xs0 xs1 xs2 xs3 (xs4 k))) (one_cell _ _)

/-- The first point leaves the image half's product in the first scratch array, -/
theorem image_first (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7 = k0_pay5 x6 x4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7)]
  unfold kernelRun0_A
  dsimp only
  sl_unfold_words
  rw [View.canon_unit_zero zero2]
  simp only [View.readAt_eq_ld, harg5.read_unread, harg6.read_unread, harg7.read_unread, View.ld_unit_zero (S := S4096x128) zero2, View.ld_unit_zero (S := S256x2) zero2]

/-- the text half's in the second, -/
theorem text_first (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7 = k0_pay6 x6 x5 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7)]
  unfold kernelRun0_A
  dsimp only
  sl_unfold_words
  rw [View.canon_unit_zero zero2]
  simp only [View.readAt_eq_ld, harg5.read_unread, harg6.read_unread, harg7.read_unread, View.ld_unit_zero (S := S4096x128) zero2, View.ld_unit_zero (S := S256x2) zero2]

/-- the image half's again for the products that pick its rows, -/
theorem imageRounded_first (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7 = k0_pay7 x6 x4 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7)]
  unfold kernelRun0_A
  dsimp only
  sl_unfold_words
  rw [View.canon_unit_zero zero2]
  simp only [View.readAt_eq_ld, harg5.read_unread, harg6.read_unread, harg7.read_unread, View.ld_unit_zero (S := S4096x128) zero2, View.ld_unit_zero (S := S256x2) zero2]

/-- and the text half's again. -/
theorem textRounded_first (hc0 : cond0_0 i) (hc1 : ¬cond0_1 i) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7 = k0_pay8 x6 x5 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7)]
  unfold kernelRun0_A
  dsimp only
  sl_unfold_words
  rw [View.canon_unit_zero zero2]
  simp only [View.readAt_eq_ld, harg5.read_unread, harg6.read_unread, harg7.read_unread, View.ld_unit_zero (S := S4096x128) zero2, View.ld_unit_zero (S := S256x2) zero2]

/-- The running total after the first point: the first block's alone. -/
theorem total_first (hc0 : cond0_0 i) (hc1 : ¬cond0_1 i) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7
      = fun _ => addBlock i x0 x1 x2 x3 x7 (k0_pay5 x6 x4) (k0_pay6 x6 x5) (k0_pay7 x6 x4) (k0_pay8 x6 x5) (Scalar.ofBits .f32 0x00000000#32) := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 hc0 hc1
        x0 x1 x2 x3 x4 x5 x6 x7)]
  unfold kernelRun0_A
  dsimp only
  sl_unfold_words
  rw [View.canon_cons_unit_zero zero1]
  simp only [View.readAt_eq_ld, harg1.read_unread, harg2.read_unread, harg3.read_unread, harg4.read_unread, harg5.read_unread, harg6.read_unread, harg7.read_unread, harg8.read_unread,
    View.ld_unit_zero (S := S256x4096) zero2, View.ld_unit_zero (S := S4096x128) zero2, View.ld_unit_zero (S := S256x2) zero2, View.ld_unit_zero (S := S1x2) zero2,
    View.readCov_unit_zero (S := S4096x2) _ zero2, View.readCov_unit_zero (S := S1) _ zero1, View.read_writes_junk_eq_canon, View.canon_unit_zero (S := S4096x2) zero2]
  rfl

end Cert.Proof
-- ==== Proof.Pick.lean ====
/-
  The index of a row's one greatest entry, as the reference's `top_k` finds it.
-/
module

public import Idealize.ShloMosaic.PureOps.Ideal
public import Idealize.ShloMosaic.Lib.Pointwise
public import Idealize.ShloMosaic.Lib.SortFacts

@[expose] public section

noncomputable section

namespace Cert.Proof

open Idealize.ShloMosaic

/-- Entry `p` is the one greatest of the row `x`. -/
def Greatest {n : ℕ} (x : Fin n → EReal) (p : Fin n) : Prop := ∀ j, j ≠ p → x j < x p

/-- A sort that puts greater entries first has the one greatest entry at its head. -/
theorem sortedFrom_greatest {n : ℕ} (x : Fin (n + 1) → EReal) (p : Fin (n + 1)) (hp : Greatest x p)
    (before : Fin (n + 1) → Fin (n + 1) → Bool) (hb : ∀ i j, before i j = decide (x j < x i)) :
    sortedFrom before 0 = p := by
  obtain ⟨k, hk⟩ := sortedFrom_surjective before p
  by_cases h0 : k = 0
  · rw [← h0]; exact hk
  · have hlt : (0 : Fin (n + 1)) < k := Fin.pos_iff_ne_zero.2 h0
    have hno := sortedFrom_noInversion before before
      (fun a b h => by
        rw [hb] at h ⊢
        exact decide_eq_false (not_lt.2 (of_decide_eq_true h).le))
      (fun a b h => h)
      (fun a b c h1 h2 => by
        rw [hb] at h1 h2 ⊢
        exact decide_eq_false (not_lt.2 (le_trans (not_lt.1 (of_decide_eq_false h1)) (not_lt.1 (of_decide_eq_false h2)))))
      0 k hlt
    rw [hb, hk] at hno
    by_contra hne
    exact of_decide_eq_false hno (hp _ hne)

/-- `top_k` of width one along a row returns the position of the row's one greatest entry. -/
theorem topK_greatest {a n : ℕ} (x : FVec Ideal ⟨2, ![a, n + 1]⟩ .f32)
    (h : (⟨2, ![a, n + 1]⟩ : Shape).Slices (fun _ => 0) ⟨2, ![a, 1]⟩) (r : Fin a) (p : Fin (n + 1))
    (hp : Greatest (fun j => x (ix2 r j)) p) :
    (Host.topK ⟨2, ![a, 1]⟩ 1 (FloatOps.cmpfTotal (F := Ideal) (φ := .f32) .gt) x h).2 (ix2 r (0 : Fin 1)) = BitVec.ofNat 32 p.val := by
  have key := sortedFrom_greatest (fun j => x (ix2 r j)) p hp
    (fun k k' => FloatOps.cmpfTotal (F := Ideal) (φ := .f32) .gt (x (ix2 r k)) (x (ix2 r k')) == 1#1)
    (fun i j => by
      show (BitVec.ofBool (decide (x (ix2 r j) < x (ix2 r i))) == 1#1) = _
      cases decide (x (ix2 r j) < x (ix2 r i)) <;> rfl)
  rw [← key]
  have e : ∀ k : Fin (n + 1), (ix2 r (0 : Fin (n + 1)) : (⟨2, ![a, n + 1]⟩ : Shape).Idx).along (1 : Fin 2) k = ix2 r k := by
    intro k
    rw [eq_ix2 (((ix2 r (0 : Fin (n + 1)) : (⟨2, ![a, n + 1]⟩ : Shape).Idx)).along (1 : Fin 2) k)]
    rfl
  have main : ∀ J : (⟨2, ![a, n + 1]⟩ : Shape).Idx, J = ix2 r (0 : Fin (n + 1)) →
      BitVec.ofNat 32 ((J.along (1 : Fin 2) (sortedFrom (fun k k' => FloatOps.cmpfTotal (F := Ideal) (φ := .f32) .gt
        (x (J.along (1 : Fin 2) k)) (x (J.along (1 : Fin 2) k')) == 1#1) (J (1 : Fin 2)))) (1 : Fin 2)).val
      = BitVec.ofNat 32 (sortedFrom (fun k k' => FloatOps.cmpfTotal (F := Ideal) (φ := .f32) .gt
        (x (ix2 r k)) (x (ix2 r k')) == 1#1) 0).val := by
    rintro J rfl
    exact congrArg (fun y : Fin (n + 1) → (⟨2, ![a, n + 1]⟩ : Shape).Idx =>
      BitVec.ofNat 32 ((y (sortedFrom (fun k k' => FloatOps.cmpfTotal (F := Ideal) (φ := .f32) .gt
        (x (y k)) (x (y k')) == 1#1) 0)) (1 : Fin 2)).val) (funext e)
  refine main _ ?_
  funext ax
  refine Fin.ext ?_
  match ax with
  | ⟨0, _⟩ => exact Nat.zero_add _
  | ⟨1, _⟩ => rfl

end Cert.Proof

end
-- ==== Proof.Noise.lean ====
/-
  One Gumbel number, from any 32-bit word: it is a real number of moderate size.
-/
module

public import Idealize.ShloMosaic.PureOps.Ideal
public import Idealize.ShloMosaic.PureOps.Ideal.Laws
public import Mathlib.Analysis.SpecialFunctions.Log.Basic

@[expose] public section

noncomputable section

namespace Cert.Proof

open Idealize.ShloMosaic

theorem log_coe (x : ℝ) (h : 0 < x) : Ideal.log (x : EReal) = (Real.log x : EReal) := by
  show (if x ≤ 0 then (⊥ : EReal) else (Real.log x : EReal)) = _
  rw [if_neg (not_le.2 h)]

theorem exp_coe (x : ℝ) : Ideal.exp (x : EReal) = (Real.exp x : EReal) := rfl

theorem div_coe (x y : ℝ) (h : y ≠ 0) : Ideal.div (x : EReal) (y : EReal) = ((x / y : ℝ) : EReal) := by
  unfold Ideal.div
  rw [if_neg (by exact_mod_cast h), div_eq_mul_inv, EReal.coe_mul, EReal.coe_inv]

theorem max_coe (x y : ℝ) : max (x : EReal) (y : EReal) = ((max x y : ℝ) : EReal) :=
  (EReal.coe_strictMono.monotone.map_max).symm

/-- The word with mantissa bits `w >>> 9` and the exponent of one denotes a number of `[1, 2 - 2⁻²³]`. -/
theorem unit_word (w : BitVec 32) :
    ∃ f : ℝ, Ideal.ofBits .f32 ((w >>> 9) ||| 0x3F800000#32) = ((1 + f : ℝ) : EReal) ∧ 0 ≤ f ∧ f ≤ 1 - 1 / 2 ^ 23 := by
  have hs : ((w >>> 9) ||| 0x3F800000#32).extractLsb' (8 + 23) 1 = 0#1 := by
    apply BitVec.eq_of_getLsbD_eq
    intro i hi
    have : i = 0 := by omega
    subst this
    simp
  have he : ((w >>> 9) ||| 0x3F800000#32).extractLsb' 23 8 = 127#8 := by
    apply BitVec.eq_of_getLsbD_eq
    intro i hi
    have hz : w.getLsbD (9 + (23 + i)) = false := BitVec.getLsbD_of_ge _ _ (by omega)
    simp only [BitVec.getLsbD_extractLsb', BitVec.getLsbD_or, BitVec.getLsbD_ushiftRight, hz, Bool.false_or]
    interval_cases i <;> decide
  have hf : (((w >>> 9) ||| 0x3F800000#32).extractLsb' 0 23).toNat < 2 ^ 23 := BitVec.isLt _
  generalize hF : (((w >>> 9) ||| 0x3F800000#32).extractLsb' 0 23).toNat = F at hf
  refine ⟨(F : ℝ) / 2 ^ 23, ?_, by positivity, ?_⟩
  · show Ideal.ieee 8 23 _ = _
    unfold Ideal.ieee
    simp only [hs, he, hF]
    rw [if_neg (by decide), if_neg (by decide)]
    congr 1
    simp
    norm_num
    ring
  · rw [div_le_iff₀ (by positivity)]
    have : (F : ℝ) ≤ 2 ^ 23 - 1 := by
      have h' : F + 1 ≤ 2 ^ 23 := hf
      have : ((F + 1 : ℕ) : ℝ) ≤ ((2 ^ 23 : ℕ) : ℝ) := by exact_mod_cast h'
      push_cast at this
      linarith
    nlinarith

theorem ofBits_tiny : Ideal.ofBits .f32 0x00800000#32 = ((1 / 2 ^ 126 : ℝ) : EReal) := by
  simp [Ideal.ofBits, Ideal.ieee, -EReal.coe_mul]; norm_num

/-- The uniform number of a word, `max(tiny, (f - 1) · 1 + tiny)`, as an extended real. -/
def uniform (w : BitVec 32) : EReal :=
  max (Ideal.ofBits .f32 0x00800000#32)
    ((Ideal.ofBits .f32 ((w >>> 9) ||| 0x3F800000#32) - Ideal.ofBits .f32 0x3F800000#32) * Ideal.ofBits .f32 0x3F800000#32
      + Ideal.ofBits .f32 0x00800000#32)

/-- The Gumbel number of a word. -/
def gumbel (w : BitVec 32) : EReal := -Ideal.log (-Ideal.log (uniform w))

theorem uniform_real (w : BitVec 32) : ∃ u : ℝ, uniform w = (u : EReal) ∧ 1 / 2 ^ 126 ≤ u ∧ u ≤ 1 - 1 / 2 ^ 24 := by
  obtain ⟨f, hw, h0, h1⟩ := unit_word w
  refine ⟨max (1 / 2 ^ 126) ((1 + f - 1) * 1 + 1 / 2 ^ 126), ?_, le_max_left _ _, ?_⟩
  · unfold uniform
    have one : Ideal.ofBits .f32 0x3F800000#32 = ((1 : ℝ) : EReal) := by
      simp [Ideal.ofBits, Ideal.ieee, -EReal.coe_mul]; norm_num
    rw [hw, ofBits_tiny, one, ← EReal.coe_sub, ← EReal.coe_mul, ← EReal.coe_add, max_coe]
  · refine max_le (by norm_num) ?_
    have : (1 : ℝ) / 2 ^ 126 ≤ 1 / 2 ^ 23 - 1 / 2 ^ 24 := by norm_num
    linarith

/-- A Gumbel number is real, and at most 100 in size. -/
theorem gumbel_real (w : BitVec 32) : ∃ g : ℝ, gumbel w = (g : EReal) ∧ |g| ≤ 100 := by
  obtain ⟨u, hu, hlo, hhi⟩ := uniform_real w
  have hupos : 0 < u := lt_of_lt_of_le (by positivity) hlo
  have hlog : Real.log u ≤ u - 1 := Real.log_le_sub_one_of_pos hupos
  have hneg : 1 / 2 ^ 24 ≤ -Real.log u := by linarith
  have hnpos : 0 < -Real.log u := lt_of_lt_of_le (by positivity) hneg
  have l2 : Real.log 2 ≤ 1 := by have := Real.log_le_sub_one_of_pos (show (0 : ℝ) < 2 by norm_num); linarith
  have l2p : 0 < Real.log 2 := Real.log_pos (by norm_num)
  have hup : -Real.log u ≤ 126 := by
    have h := Real.log_le_log (by positivity : (0 : ℝ) < 1 / 2 ^ 126) hlo
    rw [one_div, Real.log_inv, Real.log_pow] at h
    push_cast at h
    linarith
  refine ⟨-Real.log (-Real.log u), ?_, ?_⟩
  · unfold gumbel
    rw [hu, log_coe u hupos, ← EReal.coe_neg, log_coe _ hnpos, EReal.coe_neg]
  · rw [abs_neg, abs_le]
    constructor
    · have h := Real.log_le_log (by positivity : (0 : ℝ) < 1 / 2 ^ 24) hneg
      rw [one_div, Real.log_inv, Real.log_pow] at h
      push_cast at h
      linarith
    · have h := Real.log_le_sub_one_of_pos hnpos
      have h2 : Real.log (-Real.log u) ≤ Real.log (2 ^ 7) := Real.log_le_log hnpos (by linarith [show (126 : ℝ) ≤ 2 ^ 7 by norm_num])
      rw [Real.log_pow] at h2
      push_cast at h2
      linarith

end Cert.Proof

end
-- ==== Proof.Choice.lean ====
/-
  One row: the kernel's scores, the reference's scores and the precondition's scores have their one greatest entry
  at the same place. `l` is the row of logits, `g` the row of Gumbel numbers, `d` the row's own column.
-/
module

public import proofs.«01_k».proof.Proof.Pick
public import proofs.«01_k».proof.Proof.Noise

@[expose] public section

noncomputable section

namespace Cert.Proof

open Idealize.ShloMosaic

/-- A fold of maxima is an entry, and no entry is above it. -/
theorem fold_max_spec {n : ℕ} (d : Fin n) (f : Fin n → EReal) :
    ∃ k, Finset.univ.fold max ⊥ f = f k ∧ ∀ j, f j ≤ f k := by
  obtain ⟨k, -, hk⟩ := Finset.exists_max_image (Finset.univ : Finset (Fin n)) f ⟨d, Finset.mem_univ _⟩
  refine ⟨k, ?_, fun j => hk j (Finset.mem_univ j)⟩
  refine le_antisymm ?_ ?_
  · exact Finset.fold_max_le _ |>.2 ⟨bot_le, fun j _ => hk j (Finset.mem_univ j)⟩
  · exact Finset.le_fold_max _ |>.2 (Or.inr ⟨k, Finset.mem_univ k, le_rfl⟩)

theorem fold_max_greatest {n : ℕ} (f : Fin n → EReal) (p : Fin n) (hp : Greatest f p) :
    Finset.univ.fold max ⊥ f = f p := by
  obtain ⟨k, hk, hle⟩ := fold_max_spec p f
  by_cases h : k = p
  · rw [hk, h]
  · exact absurd (hp k h) (not_lt.2 (hle p))

theorem ofBits_neg_big : ∃ b : ℝ, Ideal.ofBits .f32 0xF149F2CA#32 = (b : EReal) ∧ b ≤ -10 ^ 29 := by
  refine ⟨-(13234890 * 2 ^ 76), ?_, by norm_num⟩
  simp [Ideal.ofBits, Ideal.ieee, -EReal.coe_mul, -EReal.coe_neg]

theorem ofBits_small : ∃ a : ℝ, Ideal.ofBits .f32 0x006CE3EE#32 = (a : EReal) ∧ 0 < a ∧ a ≤ 1 / 2 ^ 126 := by
  refine ⟨7136238 / 2 ^ 149, ?_, by positivity, by norm_num⟩
  simp [Ideal.ofBits, Ideal.ieee, -EReal.coe_mul]; norm_num

theorem ofBits_neg_inf : Ideal.ofBits .f32 0xFF800000#32 = ⊥ := by
  simp [Ideal.ofBits, Ideal.ieee]

/-- What the precondition says of one row: away from the row's own column, `l + g` is greatest at `p` alone. -/
def RowOk {n : ℕ} (l g : Fin n → ℝ) (d p : Fin n) : Prop :=
  p ≠ d ∧ (∀ j, j ≠ d → j ≠ p → l j + g j < l p + g p) ∧ (∀ j, |l j| ≤ 32) ∧ ∀ j, |g j| ≤ 100

/-- The kernel's scores: the own column's Gumbel number is replaced by a large negative one. -/
theorem kernel_choice {n : ℕ} (l g : Fin n → ℝ) (d p : Fin n) (h : RowOk l g d p) :
    Greatest (fun j => (l j : EReal) + if j = d then Ideal.ofBits .f32 0xF149F2CA#32 else (g j : EReal)) p := by
  obtain ⟨hpd, hlt, hl, hg⟩ := h
  obtain ⟨b, hb, hb'⟩ := ofBits_neg_big
  intro j hj
  simp only [if_neg hpd, hb]
  by_cases hjd : j = d
  · simp only [if_pos hjd]
    rw [← EReal.coe_add, ← EReal.coe_add, EReal.coe_lt_coe_iff]
    have h1 := abs_le.1 (hl j); have h2 := abs_le.1 (hl p); have h3 := abs_le.1 (hg p)
    have : (100 : ℝ) ^ 2 ≤ 10 ^ 29 := by norm_num
    linarith [h1.2, h2.1, h3.1]
  · simp only [if_neg hjd]
    rw [← EReal.coe_add, ← EReal.coe_add, EReal.coe_lt_coe_iff]
    exact hlt j hjd hj

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The softmax weight of column `j`, zero in the row's own column. -/
def weight {n : ℕ} (l : Fin n → EReal) (M : EReal) (d j : Fin n) : EReal :=
  if j = d then Ideal.ofBits .f32 0x00000000#32
  else Ideal.div (Ideal.exp (l j - M)) (Ideal.ofBits .f32 0x00000000#32 + ∑ k, Ideal.exp (l k - M))

/-- The logarithm of a weight, with its guards. -/
def logWeight (w : EReal) : EReal :=
  if Ideal.ofBits .f32 0x00000000#32 < w then Ideal.log (max w (Ideal.ofBits .f32 0x006CE3EE#32))
  else Ideal.ofBits .f32 0xF149F2CA#32

theorem log_two_ge : (4 : ℝ) / 7 ≤ Real.log 2 := by
  have h : Real.log (5 / 7) ≤ 5 / 7 - 1 := Real.log_le_sub_one_of_pos (by norm_num)
  have h2 : Real.log ((5 / 7) ^ 2) = 2 * Real.log (5 / 7) := by rw [Real.log_pow]; norm_num
  have h3 : Real.log (1 / 2) ≤ Real.log ((5 / 7) ^ 2) := Real.log_le_log (by norm_num) (by norm_num)
  rw [h2, one_div, Real.log_inv] at h3
  linarith

/-- A weight away from the own column: its guarded logarithm is the logit less a constant of the row. -/
theorem logWeight_off {n : ℕ} (hn : n ≤ 2 ^ 12) (l : Fin n → ℝ) (M : ℝ) (d : Fin n) (hl : ∀ j, |l j| ≤ 32)
    (hM : |M| ≤ 32) (hle : ∀ j, l j ≤ M) :
    ∃ c : ℝ, |c| ≤ 200 ∧ ∀ j, j ≠ d → logWeight (weight (fun k => (l k : EReal)) (M : EReal) d j) = ((l j - c : ℝ) : EReal) := by
  obtain ⟨a, ha, ha0, ha1⟩ := ofBits_small
  set s : ℝ := ∑ k, Real.exp (l k - M) with hs
  have hlM : ∀ j, -64 ≤ l j - M := fun j => by
    have h1 := abs_le.1 (hl j); have h2 := abs_le.1 hM
    linarith [h1.1, h2.2]
  have hspos : 0 < s := Finset.sum_pos (fun k _ => Real.exp_pos _) ⟨d, Finset.mem_univ _⟩
  have hsle : s ≤ 2 ^ 12 := by
    have h : s ≤ ∑ _k : Fin n, (1 : ℝ) := Finset.sum_le_sum fun k _ => by
      have := Real.exp_le_exp.2 (show l k - M ≤ 0 by linarith [hle k])
      rwa [Real.exp_zero] at this
    rw [Finset.sum_const, Finset.card_univ, Fintype.card_fin, nsmul_eq_mul, mul_one] at h
    refine h.trans ?_
    exact_mod_cast hn
  have hsge : Real.exp (-64) ≤ s :=
    (Real.exp_le_exp.2 (hlM d)).trans (Finset.single_le_sum (f := fun k => Real.exp (l k - M)) (fun k _ => (Real.exp_pos _).le) (Finset.mem_univ d))
  have hl2 := log_two_ge
  have hl2' : Real.log 2 ≤ 1 := by have := Real.log_le_sub_one_of_pos (show (0 : ℝ) < 2 by norm_num); linarith
  have hlogle : Real.log s ≤ 12 * Real.log 2 := by
    have h := Real.log_le_log hspos hsle
    rw [Real.log_pow] at h
    exact_mod_cast h
  have hlogge : -64 ≤ Real.log s := by
    have h := Real.log_le_log (Real.exp_pos _) hsge
    rwa [Real.log_exp] at h
  have hsum : (Ideal.ofBits .f32 0x00000000#32 + ∑ k, Ideal.exp ((l k : EReal) - (M : EReal))) = (s : EReal) := by
    rw [Ideal.ofBits_zero_f32, zero_add, hs, ← coe_sum]
    rfl
  refine ⟨M + Real.log s, ?_, fun j hj => ?_⟩
  · have h2 := abs_le.1 hM
    rw [abs_le]
    constructor <;> linarith [h2.1, h2.2]
  have hw : weight (fun k => (l k : EReal)) (M : EReal) d j = ((Real.exp (l j - M) / s : ℝ) : EReal) := by
    unfold weight
    simp only [if_neg hj, hsum]
    rw [← EReal.coe_sub, exp_coe, div_coe _ _ hspos.ne']
  have hwpos : 0 < Real.exp (l j - M) / s := div_pos (Real.exp_pos _) hspos
  have hlogw : Real.log (Real.exp (l j - M) / s) = l j - M - Real.log s := by
    rw [Real.log_div (Real.exp_pos _).ne' hspos.ne', Real.log_exp]
  have hwa : a ≤ Real.exp (l j - M) / s := by
    refine ha1.trans ?_
    rw [← Real.log_le_log_iff (by positivity) hwpos, hlogw, one_div, Real.log_inv, Real.log_pow]
    push_cast
    linarith [hlM j]
  unfold logWeight
  rw [hw, Ideal.ofBits_zero_f32, if_pos (by exact_mod_cast hwpos), ha, max_coe, max_eq_left hwa, log_coe _ hwpos, hlogw]
  congr 1
  ring

/-- The reference's scores. -/
theorem reference_choice {n : ℕ} (hn : n ≤ 2 ^ 12) (l g : Fin n → ℝ) (M : ℝ) (d p : Fin n) (h : RowOk l g d p)
    (hM : |M| ≤ 32) (hle : ∀ j, l j ≤ M) :
    Greatest (fun j => logWeight (weight (fun k => (l k : EReal)) (M : EReal) d j) + (g j : EReal)) p := by
  obtain ⟨hpd, hlt, hl, hg⟩ := h
  obtain ⟨c, hc, hoff⟩ := logWeight_off hn l M d hl hM hle
  obtain ⟨b, hb, hb'⟩ := ofBits_neg_big
  intro j hj
  simp only [hoff p hpd]
  by_cases hjd : j = d
  · have hz : logWeight (weight (fun k => (l k : EReal)) (M : EReal) d j) = (b : EReal) := by
      unfold weight logWeight
      rw [if_pos hjd, if_neg (lt_irrefl _), hb]
    simp only [hz]
    rw [← EReal.coe_add, ← EReal.coe_add, EReal.coe_lt_coe_iff]
    have h1 := abs_le.1 (hg j); have h2 := abs_le.1 (hl p); have h3 := abs_le.1 (hg p); have h4 := abs_le.1 hc
    have : (100 : ℝ) ^ 2 ≤ 10 ^ 29 := by norm_num
    linarith [h1.2, h2.1, h3.1, h4.2]
  · simp only [hoff j hjd]
    rw [← EReal.coe_add, ← EReal.coe_add, EReal.coe_lt_coe_iff]
    linarith [hlt j hjd hj]

end Cert.Proof

end
-- ==== Proof.RefNoise.lean ====
/-
  The reference's Gumbel numbers and its two rows of scores, entry by entry.
-/
module

public import proofs.«01_k».proof.Proof.Gen.ReferenceIdeal.Read
public import proofs.«01_k».proof.Proof.Choice
public import Idealize.ShloMosaic.Lib.Tactic

@[expose] public section

noncomputable section

namespace Cert.Proof

open Idealize.ShloMosaic Cert.ReferenceIdeal Cert.ReferenceIdeal.Read

/-- The Gumbel number of key `k` at row `i`, column `j`: the reference's array before it is sliced. -/
def noise (k : Fin 2) (i j : Fin 4096) : EReal := val_main_v232 (F := Ideal) (ix3 k i j)

theorem noise_eq (i : S2x4096x4096.Idx) : val_main_v232 (F := Ideal) i = gumbel (val_main_v215 (F := Ideal) i) := by
  rw [val_main_v232_apply, val_main_v231_apply, val_main_v230_apply, val_main_v229_apply, val_main_v228_apply,
    val_main_v227_apply, val_main_v226_apply, val_main_v225_apply, val_main_v224_apply, val_main_v223_apply,
    val_main_v222_apply, val_main_v221_apply, val_main_v220_apply, val_main_v219_apply, val_main_v218_apply,
    val_main_v217_apply, val_main_v216_apply, val_main_c_65_apply, val_main_c_66_apply, val_main_cst_67_apply,
    val_main_cst_68_apply, val_main_cst_69_apply, val_main_cst_70_apply]
  generalize val_main_v215 (F := Ideal) i = w
  rfl

/-- Every Gumbel number is real and of moderate size. -/
theorem noise_real (k : Fin 2) (i : Fin 4096) : ∃ g : Fin 4096 → ℝ, (∀ j, noise k i j = (g j : EReal)) ∧ ∀ j, |g j| ≤ 100 := by
  have h : ∀ j, ∃ g : ℝ, noise k i j = (g : EReal) ∧ |g| ≤ 100 := fun j => by
    unfold noise
    rw [noise_eq]
    exact gumbel_real _
  choose g hg using h
  exact ⟨g, fun j => (hg j).1, fun j => (hg j).2⟩

theorem v234_at (r j : Fin 4096) : val_main_v234 (F := Ideal) (ix2 r j) = noise 0 r j := by
  unfold val_main_v234 val_main_v233 noise
  generalize val_main_v232 (F := Ideal) = y
  pointwise

theorem v238_at (r j : Fin 4096) : val_main_v238 (F := Ideal) (ix2 r j) = noise 1 r j := by
  unfold val_main_v238 val_main_v237 noise
  generalize val_main_v232 (F := Ideal) = y
  pointwise

/-- Words of two columns are equal only if the columns are. -/
theorem ofNat_eq_iff (a b : Fin 4096) : BitVec.ofNat 32 a.val = BitVec.ofNat 32 b.val ↔ a = b := by
  constructor
  · intro h
    have h' := congrArg BitVec.toNat h
    rw [BitVec.toNat_ofNat, BitVec.toNat_ofNat, Nat.mod_eq_of_lt (by omega), Nat.mod_eq_of_lt (by omega)] at h'
    exact Fin.ext h'
  · rintro rfl; rfl

theorem v26_at (r j : Fin 4096) : val_main_v26 (F := Ideal) (ix2 r j) = BitVec.ofBool (decide (j = r)) := by
  pointwise [val_main_v26, val_main_v25, val_main_v24, val_main_v23, val_main_v22, val_main_c]
  show BitVec.ofBool (BitVec.ofNat 32 r.val + 0#32 == BitVec.ofNat 32 j.val) = _
  congr 1
  rw [Bool.eq_iff_iff, beq_iff_eq, decide_eq_true_iff, BitVec.add_zero, ofNat_eq_iff]
  exact eq_comm

/-- A host reduction along the rows of a matrix, at a row. -/
theorem reduce_row_at {α : Type} {a n : ℕ} (f : α → α → α) [Std.Commutative f] [Std.Associative f] (x : (⟨2, ![a, n]⟩ : Shape).Idx → α)
    (h : (⟨2, ![a, n]⟩ : Shape).ReducesTo [1] ⟨1, ![a]⟩) (hR : (⟨2, ![a, n]⟩ : Shape).Reduces [1] ⟨1, ![a]⟩)
    {u : Shape} (init : u.Idx → α) (hu : 0 < u.numel) (r : Fin a) :
    Host.reduce f x init h hu (ix1 r) = Finset.univ.fold f (init (Shape.Idx.first hu)) (fun k : Fin n => x (ix2 r k)) := by
  rw [Host.reduce_eq_fold_single f x init h hR hu]
  refine congrArg (fun y : Fin n → α => Finset.univ.fold f (init (Shape.Idx.first hu)) y) (funext fun k => ?_)
  exact congrArg x (funext fun ax => Fin.ext (by match ax with | ⟨0, _⟩ => rfl | ⟨1, _⟩ => rfl))

theorem v2_at (x : (⟨S4096x4096, .f32⟩ : BufTy).Contents (Elt Ideal)) (r : Fin 4096) :
    val_main_v2 (F := Ideal) x (ix1 r) = Finset.univ.fold max ⊥ (fun k : Fin 4096 => x (ix2 r k)) := by
  rw [val_main_v2_apply, val_main_v1_apply, val_main_cst_0_apply]
  unfold val_main_v0
  rw [reduce_row_at _ _ _ (by decide)]
  show max (Ideal.ofBits .f32 0xFF800000#32) (Finset.univ.fold max (Ideal.ofBits .f32 0xFF800000#32) _) = _
  rw [ofBits_neg_inf, max_eq_right bot_le]

theorem v10_at (x : (⟨S4096x4096, .f32⟩ : BufTy).Contents (Elt Ideal)) (r j : Fin 4096) (M : EReal)
    (h2 : val_main_v2 (F := Ideal) x (ix1 r) = M) :
    val_main_v10 (F := Ideal) x (ix2 r j)
      = Ideal.div (Ideal.exp (x (ix2 r j) - M)) (Ideal.ofBits .f32 0x00000000#32 + ∑ k : Fin 4096, Ideal.exp (x (ix2 r k) - M)) := by
  have h4 : ∀ k, val_main_v4 (F := Ideal) x (ix2 r k) = M := fun k => by
    rw [← h2]
    unfold val_main_v4 val_main_v3
    generalize val_main_v2 (F := Ideal) x = y
    pointwise
  have h6 : ∀ k, val_main_v6 (F := Ideal) x (ix2 r k) = Ideal.exp (x (ix2 r k) - M) := fun k => by
    rw [val_main_v6_apply, val_main_v5_apply, h4]
    rfl
  have h7 : val_main_v7 (F := Ideal) x (ix1 r) = Ideal.ofBits .f32 0x00000000#32 + ∑ k : Fin 4096, Ideal.exp (x (ix2 r k) - M) := by
    rw [val_main_v7_apply]
    refine congrArg₂ (· + ·) rfl (Finset.sum_congr rfl fun k _ => ?_)
    rw [← h6]
    exact congrArg _ (eq_ix2 _)
  have h9 : val_main_v9 (F := Ideal) x (ix2 r j) = val_main_v7 (F := Ideal) x (ix1 r) := by
    unfold val_main_v9 val_main_v8
    generalize val_main_v7 (F := Ideal) x = y
    pointwise
  rw [val_main_v10_apply, h6, h9, h7]
  rfl

/-- The reference's guarded logarithm of the masked softmax weight. -/
theorem v34_at (x : (⟨S4096x4096, .f32⟩ : BufTy).Contents (Elt Ideal)) (r j : Fin 4096) :
    val_main_v34 (F := Ideal) x (ix2 r j)
      = logWeight (weight (fun k => x (ix2 r k)) (Finset.univ.fold max ⊥ fun k : Fin 4096 => x (ix2 r k)) r j) := by
  have hw : val_main_v27 (F := Ideal) x (ix2 r j)
      = weight (fun k => x (ix2 r k)) (Finset.univ.fold max ⊥ fun k : Fin 4096 => x (ix2 r k)) r j := by
    unfold weight
    simp only
    rw [← v10_at x r j _ (v2_at x r), val_main_v27_apply, v26_at]
    generalize val_main_v10 (F := Ideal) x (ix2 r j) = z
    by_cases h : j = r
    · rw [if_pos h, decide_eq_true h]; rfl
    · rw [if_neg h, decide_eq_false h]; rfl
  rw [← hw, val_main_v34_apply, val_main_v30_apply, val_main_v33_apply, val_main_v32_apply]
  generalize val_main_v27 (F := Ideal) x (ix2 r j) = z
  unfold logWeight
  rw [val_main_v29_apply, val_main_v31_apply]
  show (if BitVec.ofBool (decide (Ideal.ofBits .f32 0x00000000#32 < z)) = 1#1 then Ideal.log (max z (Ideal.ofBits .f32 0x006CE3EE#32)) else Ideal.ofBits .f32 0xF149F2CA#32) = _
  by_cases h : Ideal.ofBits .f32 0x00000000#32 < z
  · rw [if_pos h, decide_eq_true h]; rfl
  · rw [if_neg h, decide_eq_false h]; rfl

/-- The reference's scores of a row: first the image rows', then the text rows'. -/
theorem v235_at (x : (⟨S4096x4096, .f32⟩ : BufTy).Contents (Elt Ideal)) (r j : Fin 4096) :
    val_main_v235 (F := Ideal) x (ix2 r j)
      = logWeight (weight (fun k => x (ix2 r k)) (Finset.univ.fold max ⊥ fun k : Fin 4096 => x (ix2 r k)) r j) + noise 0 r j := by
  rw [val_main_v235_apply, v34_at, v234_at]
  rfl

theorem v239_at (x : (⟨S4096x4096, .f32⟩ : BufTy).Contents (Elt Ideal)) (r j : Fin 4096) :
    val_main_v239 (F := Ideal) x (ix2 r j)
      = logWeight (weight (fun k => x (ix2 r k)) (Finset.univ.fold max ⊥ fun k : Fin 4096 => x (ix2 r k)) r j) + noise 1 r j := by
  rw [val_main_v239_apply, show val_main_v40 (F := Ideal) x = val_main_v34 (F := Ideal) x from rfl, v34_at, v238_at]
  rfl

/-- What the precondition gives for one matrix of logits `x` and one key: each row picks a column. -/
def Picks (x : (⟨S4096x4096, .f32⟩ : BufTy).Contents (Elt Ideal)) (k : Fin 2) (p : Fin 4096 → Fin 4096) : Prop :=
  ∀ r, ∃ l g : Fin 4096 → ℝ, (∀ j, x (ix2 r j) = (l j : EReal)) ∧ (∀ j, noise k r j = (g j : EReal)) ∧ RowOk l g r (p r)

/-- The reference's scores are greatest at the picked column. -/
theorem picks_reference (x : (⟨S4096x4096, .f32⟩ : BufTy).Contents (Elt Ideal)) (k : Fin 2) (p : Fin 4096 → Fin 4096)
    (h : Picks x k p) (r : Fin 4096) :
    Greatest (fun j => logWeight (weight (fun k => x (ix2 r k)) (Finset.univ.fold max ⊥ fun k : Fin 4096 => x (ix2 r k)) r j) + noise k r j) (p r) := by
  obtain ⟨l, g, hx, hg, hok⟩ := h r
  obtain ⟨q, hq, hle⟩ := fold_max_spec r (fun j : Fin 4096 => x (ix2 r j))
  rw [hq, hx q]
  simp only [hx, hg]
  refine reference_choice (by norm_num) l g (l q) r (p r) hok (hok.2.2.1 q) fun j => ?_
  have := hle j
  simp only [hx] at this
  exact_mod_cast this

/-- `top_k` finds the picked columns. -/
theorem indices_at (x : (⟨S4096x4096, .f32⟩ : BufTy).Contents (Elt Ideal)) (p : Fin 4096 → Fin 4096) (h : Picks x 0 p) (r : Fin 4096) :
    val_main_v236 (F := Ideal) x (ix1 r) = BitVec.ofNat 32 (p r).val := by
  have e : val_main_indices (F := Ideal) x (ix2 r (0 : Fin 1)) = BitVec.ofNat 32 (p r).val := by
    refine topK_greatest (n := 4095) _ _ r (p r) ?_
    simp only [v235_at]
    exact picks_reference x 0 p h r
  rw [← e, val_main_v236_apply]
  exact congrArg _ ((eq_ix2 _).trans (congrArg (fun z => ix2 z (0 : Fin 1)) (Fin.ext (Nat.div_one _))))

theorem indices72_at (x : (⟨S4096x4096, .f32⟩ : BufTy).Contents (Elt Ideal)) (p : Fin 4096 → Fin 4096) (h : Picks x 1 p) (r : Fin 4096) :
    val_main_v240 (F := Ideal) x (ix1 r) = BitVec.ofNat 32 (p r).val := by
  have e : val_main_indices_72 (F := Ideal) x (ix2 r (0 : Fin 1)) = BitVec.ofNat 32 (p r).val := by
    refine topK_greatest (n := 4095) _ _ r (p r) ?_
    simp only [v239_at]
    exact picks_reference x 1 p h r
  rw [← e, val_main_v240_apply]
  exact congrArg _ ((eq_ix2 _).trans (congrArg (fun z => ix2 z (0 : Fin 1)) (Fin.ext (Nat.div_one _))))

end Cert.Proof

end
-- ==== Proof.RefTake.lean ====
/-
  The reference's rows: the two takes, the concatenations and the linear layer, entry by entry.
-/
module

public import proofs.«01_k».proof.Proof.RefNoise
public import Idealize.ShloMosaic.Lib.Routing.Ops
public import Idealize.ShloMosaic.Lib.ReduceAll

@[expose] public section

noncomputable section

namespace Cert.Proof

open Idealize.ShloMosaic Cert.ReferenceIdeal Cert.ReferenceIdeal.Read

abbrev Rows := (⟨S4096x128, .f32⟩ : BufTy).Contents (Elt Ideal)
abbrev Logits := (⟨S4096x4096, .f32⟩ : BufTy).Contents (Elt Ideal)
abbrev Weights := (⟨S256x2, .f32⟩ : BufTy).Contents (Elt Ideal)
abbrev Bias := (⟨S2, .f32⟩ : BufTy).Contents (Elt Ideal)

/-- A column word is nonnegative and at most the last column. -/
theorem column_word (a : Fin 4096) :
    IntOp.cmpi .slt (BitVec.ofNat 32 a.val) 0#32 = 0#1 ∧ IntOp.cmpi .sge (BitVec.ofNat 32 a.val) 0#32 = 1#1
      ∧ IntOp.cmpi .sle (BitVec.ofNat 32 a.val) 4095#32 = 1#1 := by
  have h : (BitVec.ofNat 32 a.val).toInt = (a.val : Int) := StableHlo.Predicate.toInt_ofNat_small _ (by omega)
  have h0 : (0#32 : BitVec 32).toInt = 0 := rfl
  have h1 : (4095#32 : BitVec 32).toInt = 4095 := rfl
  have ha := a.isLt
  refine ⟨?_, ?_, ?_⟩
  · show BitVec.ofBool (BitVec.slt _ _) = _
    rw [BitVec.slt_eq_decide, h, h0, decide_eq_false (by omega)]; rfl
  · show BitVec.ofBool (BitVec.sle _ _) = _
    rw [BitVec.sle_eq_decide, h, h0, decide_eq_true (by omega)]; rfl
  · show BitVec.ofBool (BitVec.sle _ _) = _
    rw [BitVec.sle_eq_decide, h, h1, decide_eq_true (by omega)]; rfl

section
variable (x : Logits) (p : Fin 4096 → Fin 4096)

theorem start6_at (h : ∀ r : Fin 4096, val_main_v236 (F := Ideal) x (ix1 r) = BitVec.ofNat 32 (p r).val) (r : Fin 4096) :
    val_main_call6_v5 (F := Ideal) x (ix2 r (0 : Fin 1)) = BitVec.ofNat 32 (p r).val := by
  unfold val_main_call6_v5 val_main_call6_v4 val_main_call6_v3 val_main_call6_v2 val_main_call6_c_0 val_main_call6_v1 val_main_call6_v0 val_main_call6_c
  have e := h r
  generalize val_main_v236 (F := Ideal) x = y at e ⊢
  pointwise
  rw [e, (column_word (p r)).1]
  rfl

theorem mask6_at (h : ∀ r : Fin 4096, val_main_v236 (F := Ideal) x (ix1 r) = BitVec.ofNat 32 (p r).val) (r : Fin 4096) :
    val_main_call6_v12 (F := Ideal) x (ix1 r) = 1#1 := by
  unfold val_main_call6_v12
  refine Host.reduce_andi_one _ _ _ _ _ rfl fun i => ?_
  obtain ⟨a, rfl⟩ : ∃ a : Fin 4096, i = ix2 a (0 : Fin 1) := ⟨i 0, (eq_ix2 i).trans (congrArg (ix2 (i 0)) (Subsingleton.elim _ _))⟩
  have e := start6_at x p h a
  unfold val_main_call6_v11 val_main_call6_v10 val_main_call6_v7
  generalize val_main_call6_v5 (F := Ideal) x = y at e ⊢
  show IntOp.andi (IntOp.cmpi .sge (y (ix2 a (0 : Fin 1))) 0#32) (IntOp.cmpi .sle (y (ix2 a (0 : Fin 1))) 4095#32) = 1#1
  rw [e, (column_word _).2.1, (column_word _).2.2]
  rfl

/-- The first take: row `r` is the picked row of the table. -/
theorem take6_at (x1 : Rows) (h : ∀ r : Fin 4096, val_main_v236 (F := Ideal) x (ix1 r) = BitVec.ofNat 32 (p r).val) (r : Fin 4096) (j : Fin 128) :
    val_main_v242 (F := Ideal) x1 x (ix2 r j) = x1 (ix2 (p r) j) := by
  have hm : val_main_call6_v14 (F := Ideal) x (ix2 r j) = 1#1 := by
    rw [← mask6_at x p h r]
    unfold val_main_call6_v14
    generalize val_main_call6_v12 (F := Ideal) x = y
    pointwise
  have hg : val_main_call6_v13 (F := Ideal) x1 x (ix2 r j) = x1 (ix2 (p r) j) := by
    unfold val_main_call6_v13
    rw [ix2_eq_valueIdx, ix2_eq_valueIdx]
    exact Routing.gather_row (nb := 4096) (B := 128) (n := 4096) _ rfl rfl rfl rfl rfl x1 _ r j (p r)
      (by rw [← ix2_eq_valueIdx]; exact start6_at x p h r) (by norm_num)
  rw [val_main_v242_apply, hm, hg]
  rfl

theorem take7_at (x0 : Rows) (h : ∀ r : Fin 4096, val_main_v240 (F := Ideal) x (ix1 r) = BitVec.ofNat 32 (p r).val) (r : Fin 4096) (j : Fin 128) :
    val_main_v244 (F := Ideal) x0 x (ix2 r j) = x0 (ix2 (p r) j) := by
  have hs : ∀ r : Fin 4096, val_main_call7_v5 (F := Ideal) x (ix2 r (0 : Fin 1)) = BitVec.ofNat 32 (p r).val := fun r => by
    unfold val_main_call7_v5 val_main_call7_v4 val_main_call7_v3 val_main_call7_v2 val_main_call7_c_0 val_main_call7_v1 val_main_call7_v0 val_main_call7_c
    have e := h r
    generalize val_main_v240 (F := Ideal) x = y at e ⊢
    pointwise
    rw [e, (column_word (p r)).1]
    rfl
  have hk : val_main_call7_v12 (F := Ideal) x (ix1 r) = 1#1 := by
    unfold val_main_call7_v12
    refine Host.reduce_andi_one _ _ _ _ _ rfl fun i => ?_
    obtain ⟨a, rfl⟩ : ∃ a : Fin 4096, i = ix2 a (0 : Fin 1) := ⟨i 0, (eq_ix2 i).trans (congrArg (ix2 (i 0)) (Subsingleton.elim _ _))⟩
    have e := hs a
    unfold val_main_call7_v11 val_main_call7_v10 val_main_call7_v7
    generalize val_main_call7_v5 (F := Ideal) x = y at e ⊢
    show IntOp.andi (IntOp.cmpi .sge (y (ix2 a (0 : Fin 1))) 0#32) (IntOp.cmpi .sle (y (ix2 a (0 : Fin 1))) 4095#32) = 1#1
    rw [e, (column_word _).2.1, (column_word _).2.2]
    rfl
  have hm : val_main_call7_v14 (F := Ideal) x (ix2 r j) = 1#1 := by
    rw [← hk]
    unfold val_main_call7_v14
    generalize val_main_call7_v12 (F := Ideal) x = y
    pointwise
  have hg : val_main_call7_v13 (F := Ideal) x0 x (ix2 r j) = x0 (ix2 (p r) j) := by
    unfold val_main_call7_v13
    rw [ix2_eq_valueIdx, ix2_eq_valueIdx]
    exact Routing.gather_row (nb := 4096) (B := 128) (n := 4096) _ rfl rfl rfl rfl rfl x0 _ r j (p r)
      (by rw [← ix2_eq_valueIdx]; exact hs r) (by norm_num)
  rw [val_main_v244_apply, hm, hg]
  rfl

end

/-- A row of images through the upper half of the weights, and a row of texts through the lower half. -/
def imagePart (x0 : Rows) (w : Weights) (r : Fin 4096) (c : Fin 2) : EReal :=
  ∑ k : Fin 128, x0 (ix2 r k) * w (ix2 (⟨k.val, by omega⟩ : Fin 256) c)
def textPart (x1 : Rows) (w : Weights) (r : Fin 4096) (c : Fin 2) : EReal :=
  ∑ k : Fin 128, x1 (ix2 r k) * w (ix2 (⟨128 + k.val, by omega⟩ : Fin 256) c)

/-- Two matrices side by side, at a column of the left and of the right one. -/
theorem beside_at (y0 y1 : Rows) (h) (r : Fin 4096) (k : Fin 128) :
    concatenate S4096x256 1 [⟨S4096x128, y0⟩, ⟨S4096x128, y1⟩] h (ix2 r (⟨k.val, by omega⟩ : Fin 256)) = y0 (ix2 r k)
      ∧ concatenate S4096x256 1 [⟨S4096x128, y0⟩, ⟨S4096x128, y1⟩] h (ix2 r (⟨128 + k.val, by omega⟩ : Fin 256)) = y1 (ix2 r k) := by
  constructor
  · pointwise
  · pointwise

/-- Three matrices below each other, at a row of each. -/
theorem below_at (y0 y1 y2 : (⟨S4096x256, .f32⟩ : BufTy).Contents (Elt Ideal)) (h) (r : Fin 4096) (k : Fin 256) :
    concatenate S12288x256 0 [⟨S4096x256, y0⟩, ⟨S4096x256, y1⟩, ⟨S4096x256, y2⟩] h (ix2 (⟨r.val, by omega⟩ : Fin 12288) k) = y0 (ix2 r k)
      ∧ concatenate S12288x256 0 [⟨S4096x256, y0⟩, ⟨S4096x256, y1⟩, ⟨S4096x256, y2⟩] h (ix2 (⟨4096 + r.val, by omega⟩ : Fin 12288) k) = y1 (ix2 r k)
      ∧ concatenate S12288x256 0 [⟨S4096x256, y0⟩, ⟨S4096x256, y1⟩, ⟨S4096x256, y2⟩] h (ix2 (⟨8192 + r.val, by omega⟩ : Fin 12288) k) = y2 (ix2 r k) := by
  refine ⟨?_, ?_, ?_⟩
  · pointwise
  · pointwise
  · pointwise
    rw [dif_neg (by omega), dif_neg (by omega)]
    exact congrArg (fun z => y2 (ix2 z k)) (Fin.ext (by show 8192 + r.val - 4096 - 4096 = r.val; omega))

/-- The product of two rows side by side with the weights. -/
theorem product_split (f : Fin 256 → EReal) (w : Weights) (c : Fin 2) :
    (∑ k : Fin 256, f k * w (ix2 k c))
      = (∑ k : Fin 128, f (⟨k.val, by omega⟩ : Fin 256) * w (ix2 (⟨k.val, by omega⟩ : Fin 256) c))
        + ∑ k : Fin 128, f (⟨128 + k.val, by omega⟩ : Fin 256) * w (ix2 (⟨128 + k.val, by omega⟩ : Fin 256) c) :=
  Fin.sum_univ_add (a := 128) (b := 128) (fun k => f k * w (ix2 k c))

end Cert.Proof

end
-- ==== Proof.KernelLoss.lean ====
/-
  The kernel's arithmetic on one block, entry by entry: the two products with the halves of the weights, the row that
  the greatest score picks, and the sum of the negative log-likelihoods.
-/
module

public import proofs.«01_k».proof.Proof.KernelBody
public import proofs.«01_k».proof.Proof.RefTake
public import Idealize.ShloMosaic.Lib.Pointwise
public import Idealize.ShloMosaic.Lib.Pipeline.ValueKit.Tiles

@[expose] public section

set_option maxRecDepth 16384

noncomputable section

namespace Cert.Proof

open Idealize.ShloMosaic Cert.KernelIdeal Cert.KernelIdeal.Gen

/-- The negative log-likelihood of label `c` under two logits. -/
def nll (z : Fin 2 → EReal) (c : Fin 2) : EReal :=
  (Finset.univ.fold max ⊥ z + Ideal.log (∑ j : Fin 2, Ideal.exp (z j - Finset.univ.fold max ⊥ z))) - z c

theorem image_at (w : Weights) (x0 : Rows) (r : Fin 4096) (c : Fin 2) : k0_pay5 (F := Ideal) w x0 (ix2 r c) = imagePart x0 w r c := by
  unfold imagePart
  pointwise [k0_pay5, k0_pay3]

theorem text_at (w : Weights) (x1 : Rows) (r : Fin 4096) (c : Fin 2) : k0_pay6 (F := Ideal) w x1 (ix2 r c) = textPart x1 w r c := by
  unfold textPart
  pointwise [k0_pay6, k0_pay4]

theorem imageRounded_at (w : Weights) (x0 : Rows) (r : Fin 4096) (c : Fin 2) : k0_pay7 (F := Ideal) w x0 (ix2 r c) = imagePart x0 w r c := by
  unfold imagePart
  pointwise [k0_pay7, k0_pay3]

theorem textRounded_at (w : Weights) (x1 : Rows) (r : Fin 4096) (c : Fin 2) : k0_pay8 (F := Ideal) w x1 (ix2 r c) = textPart x1 w r c := by
  unfold textPart
  pointwise [k0_pay8, k0_pay4]

/-- The greatest entry of a row. -/
theorem rowMax_at {n : ℕ} (x : FVec Ideal ⟨2, ![256, n]⟩ .f32) (h : (⟨2, ![256, n]⟩ : Shape).Reduces [1] ⟨1, ![256]⟩) (r : Fin 256) :
    multiReduction (F := Ideal) .maximumf [1] ⟨1, ![256]⟩ x 0xFF800000#32 h (.inl rfl) rfl (ix1 r) = Finset.univ.fold max ⊥ (fun k : Fin n => x (ix2 r k)) := by
  refine (Ideal.multiReduction_maximumf_single x _ h _ _ _).trans ?_
  show Finset.univ.fold max (Ideal.ofBits .f32 0xFF800000#32) (fun k : Fin n => _) = _
  rw [ofBits_neg_inf]
  refine congrArg (fun y : Fin n → EReal => Finset.univ.fold max ⊥ y) (funext fun k => ?_)
  exact congrArg x (funext fun ax => Fin.ext (by match ax with | ⟨0, _⟩ => rfl | ⟨1, _⟩ => rfl))

/-- The kernel's scores: the logits plus the table, which is kept in a shorter format. -/
def scores (l : FVec Ideal S256x4096 .f32) (g : FVec Ideal S256x4096 .bf16) : FVec Ideal S256x4096 .f32 :=
  addf l (extf .f32 (shapeCast S256x4096 g shapeCasts_S256x4096_S256x4096) bitsLt_bf16_f32)

/-- The kernel's mark of the greatest score in each row. -/
def mark (x : FVec Ideal S256x4096 .f32) : FVec Ideal S256x4096 .bf16 :=
  have y : FVec Ideal S256 .f32 := multiReduction .maximumf [1] S256 x 0xFF800000#32 reduces_S256x4096_S256 (.inl rfl) rfl
  have y1 : FVec Ideal S256x1 .f32 := shapeCast S256x1 y shapeCasts_S256_S256x1
  have y2 : FVec Ideal S256x4096 .f32 := broadcastTo S256x4096 y1 broadcasts_S256x1_S256x4096
  have e : IVec S256x4096 1 := cmpf .oeq x y2
  have e1 : IVec S256x4096 32 := extui 32 e natLt_1_32
  have e2 : FVec Ideal S256x4096 .f32 := sitofp .f32 e1
  truncf .bf16 e2 bitsLt_bf16_f32

theorem mark_at (x : FVec Ideal S256x4096 .f32) (r : Fin 256) (p : Fin 4096) (hp : Greatest (fun j => x (ix2 r j)) p) (j : Fin 4096) :
    mark x (ix2 r j) = if j = p then 1 else 0 := by
  have hm := rowMax_at x reduces_S256x4096_S256 r
  rw [fold_max_greatest _ p hp] at hm
  unfold mark
  dsimp only
  generalize multiReduction (F := Ideal) .maximumf [1] S256 x 0xFF800000#32 reduces_S256x4096_S256 (.inl rfl) rfl = y at hm ⊢
  have hb : broadcastTo S256x4096 (shapeCast S256x1 y shapeCasts_S256_S256x1) broadcasts_S256x1_S256x4096 (ix2 r j) = y (ix1 r) := by pointwise
  show ((((BitVec.ofBool (decide (x (ix2 r j) = broadcastTo S256x4096 (shapeCast S256x1 y shapeCasts_S256_S256x1) broadcasts_S256x1_S256x4096 (ix2 r j)))).setWidth 32).toInt : ℝ) : EReal) = _
  rw [hb, hm]
  by_cases h : j = p
  · rw [h, decide_eq_true rfl, if_pos rfl]
    show (((1 : ℤ) : ℝ) : EReal) = 1
    norm_num
  · rw [decide_eq_false (ne_of_lt (hp j h)), if_neg h]
    show (((0 : ℤ) : ℝ) : EReal) = 0
    norm_num

/-- The row of the scratch array that the greatest score picks. -/
theorem pick_at (l : Vec Ideal S256x4096 .f32) (g : Vec Ideal S256x4096 .bf16) (y : Vec Ideal S4096x2 .bf16) (r : Fin 256) (c : Fin 2) (p : Fin 4096)
    (hp : Greatest (fun j => l (ix2 r j) + g (ix2 r j)) p) : k0_pay9 (F := Ideal) l g y (ix2 r c) = y (ix2 p c) := by
  have e : k0_pay9 (F := Ideal) l g y = matmul (F := Ideal) dot_S256x4096_S4096x2_S256x2_1_0_0_1_n_n none (mark (scores l g)) y (constant (F := Ideal) S256x2 .f32 0x00000000#32) := rfl
  rw [e]
  have hk := mark_at (scores l g) r p (by
    have hs : ∀ k, scores l g (ix2 r k) = l (ix2 r k) + g (ix2 r k) := fun k => by pointwise [scores]
    simpa only [hs] using hp)
  generalize mark (scores l g) = x at hk ⊢
  pointwise
  simp only [hk]
  rw [Finset.sum_eq_single p (fun j _ hj => by rw [if_neg hj, zero_mul]) (fun h => absurd (Finset.mem_univ p) h), if_pos rfl, one_mul]

theorem pick10_at (l : Vec Ideal S256x4096 .f32) (g : Vec Ideal S256x4096 .bf16) (y : Vec Ideal S4096x2 .bf16) (r : Fin 256) (c : Fin 2) (p : Fin 4096)
    (hp : Greatest (fun j => l (ix2 r j) + g (ix2 r j)) p) : k0_pay10 (F := Ideal) l g y (ix2 r c) = y (ix2 p c) :=
  pick_at l g y r c p hp

theorem losses_at (y u v : Vec Ideal S256x2 .f32) (b : Vec Ideal S1x2 .f32) :
    k0_pay12 (F := Ideal) y u v b
      = (∑ r : Fin 256, nll (fun j => (u (ix2 r j) + v (ix2 r j)) + b (ix2 (0 : Fin 1) j)) 1)
        + ∑ r : Fin 256, nll (fun j => (u (ix2 r j) + y (ix2 r j)) + b (ix2 (0 : Fin 1) j)) 0 := by
  unfold nll
  pointwise [k0_pay12, k0_pay11]
  simp only [ofBits_neg_inf, Fin.sum_univ_one]

theorem lastLoss_at (acc n : EReal) (y v : Vec Ideal S256x2 .f32) (b : Vec Ideal S1x2 .f32) :
    k0_pay1 (F := Ideal) acc n (k0_pay13 y v b) (k0_pay14 y v b) (k0_pay15 y v b)
      = acc + (n + ∑ r : Fin 256, nll (fun j => (y (ix2 r j) + v (ix2 r j)) + b (ix2 (0 : Fin 1) j)) 0) := by
  unfold nll
  pointwise [k0_pay1, k0_pay15, k0_pay14, k0_pay13, k0_pay11]
  simp only [ofBits_neg_inf, Fin.sum_univ_one]

end Cert.Proof

end
-- ==== Proof.KernelArray.lean ====
/-
  The kernel's grid read as a sum: what each block of the windows holds, what is carried from one point to the next,
  and what the one result cell holds at the end.
-/
module

public import proofs.«01_k».proof.Proof.KernelBody
public import proofs.«01_k».proof.Proof.Gen.KernelIdeal.Value

@[expose] public section

set_option maxRecDepth 16384

noncomputable section

namespace Cert.Proof

open Idealize.ShloMosaic Idealize.ShloMosaic.TcCoe Cert.KernelIdeal Cert.KernelIdeal.Gen
open Idealize.SL.Sem
open Idealize.ShloMosaic.Pipeline (Dat)

variable {F : FTy → Type} [FloatOps F]
variable (m : (ℓ : Loc nD τ sig) → Buf (Elt F) ℓ) (c : Dev nD)

/-- The array row that is row `r` of block `t`. -/
def rowOf (t : Fin 16) (r : Fin 256) : Fin 4096 := ⟨256 * t.val + r.val, by have := t.isLt; have := r.isLt; omega⟩

/-- A grid point by its number. -/
abbrev point (t : Fin 16) : Fin cfg0.N := t.cast N_0.symm

theorem index_rows : ∀ t : Fin 16, (win0_0.index (point t) 0 = t.val ∧ win0_0.index (point t) 1 = 0) ∧ (win0_1.index (point t) 0 = t.val ∧ win0_1.index (point t) 1 = 0)
    ∧ (win0_2.index (point t) 0 = t.val ∧ win0_2.index (point t) 1 = 0) ∧ (win0_3.index (point t) 0 = t.val ∧ win0_3.index (point t) 1 = 0) := by decide +kernel

theorem index_whole : ∀ t : Fin 16, (∀ a, win0_4.index (point t) a = 0) ∧ (∀ a, win0_5.index (point t) a = 0) ∧ (∀ a, win0_6.index (point t) a = 0)
    ∧ (∀ a, win0_7.index (point t) a = 0) ∧ (∀ a, win0_8.index (point t) a = 0) := by decide +kernel

theorem block0_at (t : Fin 16) (r : Fin 256) (j : Fin 4096) : (iblk m c 0 (point t) : Vec F S256x4096 .f32) (ix2 r j) = V m c main_arg2 (ix2 (rowOf t r) j) := by
  obtain ⟨h, -, -, -⟩ := index_rows t
  unfold iblk
  rw [View.read_apply]
  show V m c main_arg2 _ = V m c main_arg2 _
  congr 1
  funext a
  apply Fin.ext
  match a with
  | ⟨0, _⟩ => show win0_0.index (point t) 0 * 256 + 1 * r.val = 256 * t.val + r.val; rw [h.1]; omega
  | ⟨1, _⟩ => show win0_0.index (point t) 1 * 4096 + 1 * j.val = j.val; rw [h.2]; omega

theorem block1_at (t : Fin 16) (r : Fin 256) (j : Fin 4096) : (iblk m c 1 (point t) : Vec F S256x4096 .bf16) (ix2 r j) = V m c main_v167 (ix2 (rowOf t r) j) := by
  obtain ⟨-, h, -, -⟩ := index_rows t
  unfold iblk
  rw [View.read_apply]
  show V m c main_v167 _ = V m c main_v167 _
  congr 1
  funext a
  apply Fin.ext
  match a with
  | ⟨0, _⟩ => show win0_1.index (point t) 0 * 256 + 1 * r.val = 256 * t.val + r.val; rw [h.1]; omega
  | ⟨1, _⟩ => show win0_1.index (point t) 1 * 4096 + 1 * j.val = j.val; rw [h.2]; omega

theorem block2_at (t : Fin 16) (r : Fin 256) (j : Fin 4096) : (iblk m c 2 (point t) : Vec F S256x4096 .f32) (ix2 r j) = V m c main_arg3 (ix2 (rowOf t r) j) := by
  obtain ⟨-, -, h, -⟩ := index_rows t
  unfold iblk
  rw [View.read_apply]
  show V m c main_arg3 _ = V m c main_arg3 _
  congr 1
  funext a
  apply Fin.ext
  match a with
  | ⟨0, _⟩ => show win0_2.index (point t) 0 * 256 + 1 * r.val = 256 * t.val + r.val; rw [h.1]; omega
  | ⟨1, _⟩ => show win0_2.index (point t) 1 * 4096 + 1 * j.val = j.val; rw [h.2]; omega

theorem block3_at (t : Fin 16) (r : Fin 256) (j : Fin 4096) : (iblk m c 3 (point t) : Vec F S256x4096 .bf16) (ix2 r j) = V m c main_v169 (ix2 (rowOf t r) j) := by
  obtain ⟨-, -, -, h⟩ := index_rows t
  unfold iblk
  rw [View.read_apply]
  show V m c main_v169 _ = V m c main_v169 _
  congr 1
  funext a
  apply Fin.ext
  match a with
  | ⟨0, _⟩ => show win0_3.index (point t) 0 * 256 + 1 * r.val = 256 * t.val + r.val; rw [h.1]; omega
  | ⟨1, _⟩ => show win0_3.index (point t) 1 * 4096 + 1 * j.val = j.val; rw [h.2]; omega

theorem block4_eq (t : Fin 16) : iblk m c 4 (point t) = V m c main_arg0 := by
  obtain ⟨h, -, -, -, -⟩ := index_whole t
  have hz : (fun a => win0_4.index (point t) a * main_arg0.ty.shape.size a) = fun _ => 0 := funext fun a => by rw [h a, Nat.zero_mul]
  exact Memref.read_access_unit_zero (Elt F) main_arg0 hz (fun a => by rw [congrFun hz a]; simp) (V m c main_arg0)

theorem block5_eq (t : Fin 16) : iblk m c 5 (point t) = V m c main_arg1 := by
  obtain ⟨-, h, -, -, -⟩ := index_whole t
  have hz : (fun a => win0_5.index (point t) a * main_arg1.ty.shape.size a) = fun _ => 0 := funext fun a => by rw [h a, Nat.zero_mul]
  exact Memref.read_access_unit_zero (Elt F) main_arg1 hz (fun a => by rw [congrFun hz a]; simp) (V m c main_arg1)

theorem block6_eq (t : Fin 16) : iblk m c 6 (point t) = V m c main_arg4 := by
  obtain ⟨-, -, h, -, -⟩ := index_whole t
  have hz : (fun a => win0_6.index (point t) a * main_arg4.ty.shape.size a) = fun _ => 0 := funext fun a => by rw [h a, Nat.zero_mul]
  exact Memref.read_access_unit_zero (Elt F) main_arg4 hz (fun a => by rw [congrFun hz a]; simp) (V m c main_arg4)

theorem block7_eq (t : Fin 16) : iblk m c 7 (point t) = V m c main_v170 := by
  obtain ⟨-, -, -, h, -⟩ := index_whole t
  have hz : (fun a => win0_7.index (point t) a * main_v170.ty.shape.size a) = fun _ => 0 := funext fun a => by rw [h a, Nat.zero_mul]
  exact Memref.read_access_unit_zero (Elt F) main_v170 hz (fun a => by rw [congrFun hz a]; simp) (V m c main_v170)

/-- The running total after point `t`, from the one before it. -/
def grow (t : Fin 16) (acc : F .f32) : F .f32 :=
  addBlock (grid0.coords (point t)) (iblk m c 0 (point t)) (iblk m c 1 (point t)) (iblk m c 2 (point t)) (iblk m c 3 (point t)) (V m c main_v170)
    (k0_pay5 (V m c main_arg4) (V m c main_arg0)) (k0_pay6 (V m c main_arg4) (V m c main_arg1)) (k0_pay7 (V m c main_arg4) (V m c main_arg0)) (k0_pay8 (V m c main_arg4) (V m c main_arg1)) acc

/-- The running total after the first `n + 1` points. -/
def total : (n : ℕ) → n < 16 → F .f32
  | 0, h => grow m c ⟨0, h⟩ (Scalar.ofBits .f32 0x00000000#32)
  | n + 1, h => grow m c ⟨n + 1, h⟩ (total n (Nat.lt_of_succ_lt h))

/-- What is carried: the two products, twice each, and the running total. -/
theorem carried : ∀ (n : ℕ) (h : n < 16), (outsAt0 m c n (lt_of_lt_of_eq h N_0.symm)).2
    = (k0_pay5 (V m c main_arg4) (V m c main_arg0), k0_pay6 (V m c main_arg4) (V m c main_arg1), k0_pay7 (V m c main_arg4) (V m c main_arg0),
        k0_pay8 (V m c main_arg4) (V m c main_arg1), fun _ => total m c n h)
  | 0, h => by
    rw [show outsAt0 m c 0 (lt_of_lt_of_eq h N_0.symm) = _ from outsAt0_A m c (point ⟨0, h⟩) rfl (by show ¬0 % 16 = 15; decide)]
    dsimp only
    rw [image_first, text_first, imageRounded_first, textRounded_first, total_first, block4_eq, block5_eq, block6_eq, block7_eq]
    rfl
  | n + 1, h => by
    have ih := carried n (Nat.lt_of_succ_lt h)
    have h0 : ¬(point ⟨n + 1, h⟩).val % 16 = 0 := by show ¬(n + 1) % 16 = 0; omega
    by_cases h1 : (point ⟨n + 1, h⟩).val % 16 = 15
    · rw [show outsAt0 m c (n + 1) (lt_of_lt_of_eq h N_0.symm) = _ from outsAt0_C m c (point ⟨n + 1, h⟩) h0 h1]
      dsimp only
      rw [total_last, block7_eq]
      unfold sout0_C_0 sout0_C_1 sout0_C_2 sout0_C_3
      rw [show outsAt0 m c ((point ⟨n + 1, h⟩).val - 1) _ = outsAt0 m c n (lt_of_lt_of_eq (Nat.lt_of_succ_lt h) N_0.symm) from rfl, ih]
      rfl
    · rw [show outsAt0 m c (n + 1) (lt_of_lt_of_eq h N_0.symm) = _ from outsAt0_B m c (point ⟨n + 1, h⟩) h0 h1]
      dsimp only
      rw [total_between, block7_eq]
      unfold sout0_B_0 sout0_B_1 sout0_B_2 sout0_B_3
      rw [show outsAt0 m c ((point ⟨n + 1, h⟩).val - 1) _ = outsAt0 m c n (lt_of_lt_of_eq (Nat.lt_of_succ_lt h) N_0.symm) from rfl, ih]
      rfl

/-- What the last point writes out. -/
theorem written : (outsAt0 m c 15 (by rw [show cfg0.N = 16 from N_0]; decide)).1 = fun _ => k0_pay2 (total m c 15 (by decide)) := by
  have ih := carried m c 14 (by decide)
  rw [show outsAt0 m c 15 _ = _ from outsAt0_C m c (point 15) (by decide) (by decide)]
  dsimp only
  rw [out_last, block7_eq]
  rw [show outsAt0 m c ((point 15).val - 1) _ = outsAt0 m c 14 (by rw [show cfg0.N = 16 from N_0]; decide) from rfl, ih]
  rfl

/-- The result cell as contents of the result array. -/
abbrev resultCell : Buf (Elt F) ((c : Thread nD τ).loc main_v171) := fun _ => k0_pay2 (total m c 15 (by decide))

theorem flushed_eq (t : Fin cfg0.N) (hf : (cfg0.win 8).flush t = true) :
    (dats m 0 c).flushed 8 t = ((cfg0.win 8).blk t).view.read (Elt F) (resultCell m c) := by
  have hN : cfg0.N = 16 := N_0
  have h15 : t.val = 15 := by have := (flush0_8 t).mp hf; have := t.isLt; omega
  obtain rfl : t = point 15 := Fin.ext h15
  show (cfg0.win 8).cut (grid0.coords (point 15)) ((dats m 0 c).after 8 (point 15)) = _
  rw [after0_8, show outsAt0 m c (point 15).val _ = outsAt0 m c 15 (by rw [show cfg0.N = 16 from N_0]; decide) from rfl, written]
  rfl

/-- The result array at the end. -/
theorem final_result : (dats m 0 c).arrAt 8 cfg0.N = resultCell m c :=
  (dats m 0 c).arrAt_eq_of_cover 8 (resultCell m c) (flushed_eq m c) fun i =>
    ⟨point 15, (flush0_8 _).mpr rfl, by
      obtain ⟨-, -, -, -, h⟩ := index_whole 15
      show i ∈ ((View.whole main_v171).slice (win0_8.rect (point 15))).set
      rw [View.set_slice_whole, Rect.mem_set_unit]
      intro a
      have h0 : (i 0 : Nat) < 1 := (i 0).isLt
      have h1 : (i 1 : Nat) < 1 := (i 1).isLt
      match a with
      | ⟨0, _⟩ => show win0_8.index (point 15) 0 * win0_8.size 0 ≤ (i 0 : Nat) ∧ (i 0 : Nat) < win0_8.index (point 15) 0 * win0_8.size 0 + win0_8.xsize (grid0.coords (point 15)) 0
                  rw [h 0, show win0_8.xsize (grid0.coords (point 15)) 0 = 1 from by decide +kernel]; omega
      | ⟨1, _⟩ => show win0_8.index (point 15) 1 * win0_8.size 1 ≤ (i 1 : Nat) ∧ (i 1 : Nat) < win0_8.index (point 15) 1 * win0_8.size 1 + win0_8.xsize (grid0.coords (point 15)) 1
                  rw [h 1, show win0_8.xsize (grid0.coords (point 15)) 1 = 1 from by decide +kernel]; omega⟩

end Cert.Proof
-- ==== Proof.RefLoss.lean ====
/-
  The reference's loss: the linear layer's logits, the labels, the log-softmax and the mean.
-/
module

public import proofs.«01_k».proof.Proof.RefTake

@[expose] public section

noncomputable section

namespace Cert.Proof

open Idealize.ShloMosaic Cert.ReferenceIdeal Cert.ReferenceIdeal.Read

section
variable (x0 x1 : Rows) (x2 x3 : Logits) (w : Weights) (b : Bias)

theorem v250_at (R : Fin 12288) (c : Fin 2) :
    val_main_v250 (F := Ideal) x0 x1 x2 x3 w b (ix2 R c)
      = (∑ k : Fin 256, val_main_v246 (F := Ideal) x0 x1 x2 x3 (ix2 R k) * w (ix2 k c)) + b (ix1 c) := by
  have h1 : val_main_v247 (F := Ideal) x0 x1 x2 x3 w (ix2 R c) = ∑ k : Fin 256, val_main_v246 (F := Ideal) x0 x1 x2 x3 (ix2 R k) * w (ix2 k c) := by
    rw [val_main_v247_apply]
    refine Finset.sum_congr rfl fun k _ => ?_
    exact congrArg₂ (fun y z => val_main_v246 (F := Ideal) x0 x1 x2 x3 y * w z) (eq_ix2 _) (eq_ix2 _)
  have h2 : val_main_v249 (F := Ideal) b (ix2 R c) = b (ix1 c) := by
    unfold val_main_v249 val_main_v248
    pointwise
  rw [val_main_v250_apply, h1, h2]
  rfl

/-- The logits of the three groups of rows. -/
theorem matched_at (r : Fin 4096) (c : Fin 2) :
    val_main_v250 (F := Ideal) x0 x1 x2 x3 w b (ix2 (⟨r.val, by omega⟩ : Fin 12288) c) = (imagePart x0 w r c + textPart x1 w r c) + b (ix1 c) := by
  rw [v250_at, product_split]
  unfold val_main_v246 val_main_v241
  simp only [(below_at _ _ _ _ r _).1, (beside_at _ _ _ r _).1, (beside_at _ _ _ r _).2]
  rfl

theorem negText_at (p : Fin 4096 → Fin 4096) (h : ∀ r : Fin 4096, val_main_v236 (F := Ideal) x2 (ix1 r) = BitVec.ofNat 32 (p r).val) (r : Fin 4096) (c : Fin 2) :
    val_main_v250 (F := Ideal) x0 x1 x2 x3 w b (ix2 (⟨4096 + r.val, by omega⟩ : Fin 12288) c) = (imagePart x0 w r c + textPart x1 w (p r) c) + b (ix1 c) := by
  rw [v250_at, product_split]
  unfold val_main_v246 val_main_v243
  simp only [(below_at _ _ _ _ r _).2.1, (beside_at _ _ _ r _).1, (beside_at _ _ _ r _).2, take6_at x2 p x1 h]
  rfl

theorem negImage_at (q : Fin 4096 → Fin 4096) (h : ∀ r : Fin 4096, val_main_v240 (F := Ideal) x3 (ix1 r) = BitVec.ofNat 32 (q r).val) (r : Fin 4096) (c : Fin 2) :
    val_main_v250 (F := Ideal) x0 x1 x2 x3 w b (ix2 (⟨8192 + r.val, by omega⟩ : Fin 12288) c) = (imagePart x0 w (q r) c + textPart x1 w r c) + b (ix1 c) := by
  rw [v250_at, product_split]
  unfold val_main_v246 val_main_v245
  simp only [(below_at _ _ _ _ r _).2.2, (beside_at _ _ _ r _).1, (beside_at _ _ _ r _).2, take7_at x3 q x0 h]
  rfl

/-- The log-softmax of a row of two logits, at one of them. -/
def logSoftmax (z : Fin 2 → EReal) (c : Fin 2) : EReal :=
  (z c - max ⊥ (Finset.univ.fold max ⊥ z))
    - Ideal.log (Ideal.ofBits .f32 0x00000000#32 + ∑ j : Fin 2, Ideal.exp (z j - max ⊥ (Finset.univ.fold max ⊥ z)))

theorem v255_at (R : Fin 12288) (c : Fin 2) :
    val_main_v255 (F := Ideal) x0 x1 x2 x3 w b (ix2 R c) = logSoftmax (fun j => val_main_v250 (F := Ideal) x0 x1 x2 x3 w b (ix2 R j)) c := by
  have h2 : val_main_call8_v2 (F := Ideal) x0 x1 x2 x3 w b (ix1 R)
      = max ⊥ (Finset.univ.fold max ⊥ fun j : Fin 2 => val_main_v250 (F := Ideal) x0 x1 x2 x3 w b (ix2 R j)) := by
    rw [val_main_call8_v2_apply, val_main_call8_v1_apply, val_main_call8_cst_0_apply]
    unfold val_main_call8_v0
    rw [reduce_row_at _ _ _ (by decide)]
    show max (Ideal.ofBits .f32 0xFF800000#32) (Finset.univ.fold max (Ideal.ofBits .f32 0xFF800000#32) _) = _
    rw [ofBits_neg_inf]
  have h4 : ∀ j : Fin 2, val_main_call8_v4 (F := Ideal) x0 x1 x2 x3 w b (ix2 R j) = val_main_call8_v2 (F := Ideal) x0 x1 x2 x3 w b (ix1 R) := fun j => by
    unfold val_main_call8_v4 val_main_call8_v3
    generalize val_main_call8_v2 (F := Ideal) x0 x1 x2 x3 w b = y
    pointwise
  have h5 : ∀ j : Fin 2, val_main_call8_v5 (F := Ideal) x0 x1 x2 x3 w b (ix2 R j)
      = val_main_v250 (F := Ideal) x0 x1 x2 x3 w b (ix2 R j) - val_main_call8_v2 (F := Ideal) x0 x1 x2 x3 w b (ix1 R) := fun j => by
    rw [val_main_call8_v5_apply, h4]
    rfl
  have h7 : val_main_call8_v7 (F := Ideal) x0 x1 x2 x3 w b (ix1 R)
      = Ideal.ofBits .f32 0x00000000#32 + ∑ j : Fin 2, Ideal.exp (val_main_v250 (F := Ideal) x0 x1 x2 x3 w b (ix2 R j) - val_main_call8_v2 (F := Ideal) x0 x1 x2 x3 w b (ix1 R)) := by
    rw [val_main_call8_v7_apply]
    refine congrArg₂ (· + ·) rfl (Finset.sum_congr rfl fun k _ => ?_)
    rw [← h5, val_main_call8_v6_apply]
    exact congrArg (fun y => Ideal.exp (val_main_call8_v5 (F := Ideal) x0 x1 x2 x3 w b y)) (eq_ix2 _)
  have h10 : val_main_call8_v10 (F := Ideal) x0 x1 x2 x3 w b (ix2 R c) = Ideal.log (val_main_call8_v7 (F := Ideal) x0 x1 x2 x3 w b (ix1 R)) := by
    unfold val_main_call8_v10 val_main_call8_v9 val_main_call8_v8
    generalize val_main_call8_v7 (F := Ideal) x0 x1 x2 x3 w b = y
    pointwise
  rw [val_main_v255_apply, h5, h10, h7, h2]
  rfl

/-- The label of a row: the first 4096 rows are pairs that belong together. -/
def label (R : Fin 12288) : Fin 2 := if R.val < 4096 then 1 else 0

theorem v254_at (R : Fin 12288) : val_main_v254 (F := Ideal) (ix1 R) = BitVec.ofNat 32 (label R).val := by
  unfold val_main_v254 val_main_v253 val_main_v252 val_main_v251 val_main_c_73 val_main_c_74 val_main_c_75 label
  pointwise
  split
  · rfl
  · split <;> rfl

theorem start9_at (R : Fin 12288) : val_main_call9_v5 (F := Ideal) (ix3 R (0 : Fin 1) (0 : Fin 1)) = BitVec.ofNat 32 (label R).val := by
  unfold val_main_call9_v5 val_main_call9_v4 val_main_call9_v3 val_main_call9_v2 val_main_call9_c_0 val_main_call9_v1 val_main_call9_v0 val_main_call9_c val_main_v256
  have e := v254_at R
  generalize val_main_v254 (F := Ideal) = y at e ⊢
  pointwise
  rw [e]
  unfold label
  split <;> rfl

theorem mask9_at (R : Fin 12288) : val_main_call9_v12 (F := Ideal) (ix2 R (0 : Fin 1)) = 1#1 := by
  unfold val_main_call9_v12
  refine Host.reduce_andi_one _ _ _ _ _ rfl fun i => ?_
  obtain ⟨a, rfl⟩ : ∃ a : Fin 12288, i = ix3 a (0 : Fin 1) (0 : Fin 1) :=
    ⟨i 0, (eq_ix3 i).trans (congrArg₂ (ix3 (i 0)) (Subsingleton.elim _ _) (Subsingleton.elim _ _))⟩
  have e := start9_at a
  unfold val_main_call9_v11 val_main_call9_v10 val_main_call9_v7
  generalize val_main_call9_v5 (F := Ideal) = y at e ⊢
  show IntOp.andi (IntOp.cmpi .sge (y (ix3 a (0 : Fin 1) (0 : Fin 1))) 0#32) (IntOp.cmpi .sle (y (ix3 a (0 : Fin 1) (0 : Fin 1))) 1#32) = 1#1
  rw [e]
  unfold label
  split <;> rfl

/-- Picking one entry of each row of a matrix of two columns. -/
theorem gather_label (d : GatherDims S12288x2 S12288x1x1 S12288x1)
    (hd : d = gather_S12288x2_S12288x1x1_S12288x1_n_1_0_0_1_2_11)
    (x : S12288x2.Idx → EReal) (idx : IVec S12288x1x1 32) (R : Fin 12288) (l : Fin 2)
    (h : idx (ix3 R (0 : Fin 1) (0 : Fin 1)) = BitVec.ofNat 32 l.val) :
    Host.gather d x idx (ix2 R (0 : Fin 1)) = x (ix2 R l) := by
  subst hd
  unfold Host.gather
  refine congrArg x (funext fun a => Fin.ext ?_)
  set d := gather_S12288x2_S12288x1x1_S12288x1_n_1_0_0_1_2_11 with hd
  show d.start (ix2 R (0 : Fin 1)) idx a + d.batchCoord (ix2 R (0 : Fin 1)) a + d.offCoord (ix2 R (0 : Fin 1)) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 R (0 : Fin 1)) ⟨List.idxOf (1 : Fin 2) d.startIndexMap, List.idxOf_lt_length_iff.2 (List.mem_singleton.mpr rfl)⟩
        = ix3 R (0 : Fin 1) (0 : Fin 1) := by
      funext b; refine Fin.ext ?_
      match b with
      | ⟨0, _⟩ => rfl
      | ⟨1, _⟩ => rfl
      | ⟨2, _⟩ => rfl
    rw [hsi, h, StableHlo.Predicate.toInt_ofNat_small _ (by omega)]
    show min l.val (2 - 1) = l.val
    omega

/-- The loss of one row of the reference. -/
theorem v259_at (R : Fin 12288) :
    val_main_v259 (F := Ideal) x0 x1 x2 x3 w b (ix1 R)
      = -logSoftmax (fun j => val_main_v250 (F := Ideal) x0 x1 x2 x3 w b (ix2 R j)) (label R) := by
  have hg : val_main_call9_v13 (F := Ideal) x0 x1 x2 x3 w b (ix2 R (0 : Fin 1)) = val_main_v255 (F := Ideal) x0 x1 x2 x3 w b (ix2 R (label R)) := by
    unfold val_main_call9_v13
    exact gather_label _ rfl _ _ R _ (start9_at R)
  have h7 : val_main_v257 (F := Ideal) x0 x1 x2 x3 w b (ix2 R (0 : Fin 1)) = val_main_v255 (F := Ideal) x0 x1 x2 x3 w b (ix2 R (label R)) := by
    rw [val_main_v257_apply, mask9_at, hg]
    rfl
  have h8 : val_main_v258 (F := Ideal) x0 x1 x2 x3 w b (ix1 R) = val_main_v257 (F := Ideal) x0 x1 x2 x3 w b (ix2 R (0 : Fin 1)) := by
    unfold val_main_v258
    generalize val_main_v257 (F := Ideal) x0 x1 x2 x3 w b = y
    pointwise
  rw [val_main_v259_apply, h8, h7, v255_at]
  rfl

/-- The reference's result: the rows' losses summed and divided by their number. -/
theorem v262_at (i : S1x1.Idx) :
    val_main_v262 (F := Ideal) x0 x1 x2 x3 w b i
      = Ideal.div (Ideal.ofBits .f32 0x00000000#32
          + ∑ R : Fin 12288, -logSoftmax (fun j => val_main_v250 (F := Ideal) x0 x1 x2 x3 w b (ix2 R j)) (label R)) (Ideal.ofBits .f32 0x46400000#32) := by
  have h0 : val_main_v262 (F := Ideal) x0 x1 x2 x3 w b i = val_main_v261 (F := Ideal) x0 x1 x2 x3 w b ix0 := by
    unfold val_main_v262
    generalize val_main_v261 (F := Ideal) x0 x1 x2 x3 w b = y
    exact congrArg y (Subsingleton.elim _ _)
  rw [h0, val_main_v261_apply, val_main_v260_apply, sum_idx1]
  simp only [v259_at]
  rfl

end

end Cert.Proof

end
-- ==== Proof.Likelihood.lean ====
/-
  The two ways of writing a negative log-likelihood agree on real logits, and the sum over all rows splits into blocks.
-/
module

public import proofs.«01_k».proof.Proof.KernelLoss
public import proofs.«01_k».proof.Proof.KernelArray
public import proofs.«01_k».proof.Proof.RefLoss

@[expose] public section

set_option maxRecDepth 16384

noncomputable section

namespace Cert.Proof

open Idealize.ShloMosaic

theorem nll_eq (x : Fin 2 → EReal) (z : Fin 2 → ℝ) (hx : ∀ j, x j = (z j : EReal)) (c : Fin 2) : -logSoftmax x c = nll x c := by
  obtain ⟨k, hk, hle⟩ := fold_max_spec c x
  have hs : (∑ j : Fin 2, Ideal.exp (x j - (z k : EReal))) = ((∑ j : Fin 2, Real.exp (z j - z k) : ℝ) : EReal) := by
    rw [← coe_sum]
    refine Finset.sum_congr rfl fun j _ => ?_
    rw [hx, ← EReal.coe_sub, exp_coe]
  have hpos : 0 < ∑ j : Fin 2, Real.exp (z j - z k) := Finset.sum_pos (fun j _ => Real.exp_pos _) ⟨c, Finset.mem_univ _⟩
  unfold logSoftmax nll
  rw [hk, max_eq_right bot_le, hx k, hs, Ideal.ofBits_zero_f32, zero_add, log_coe _ hpos, hx c, ← EReal.coe_sub, ← EReal.coe_sub,
    ← EReal.coe_neg, ← EReal.coe_add, ← EReal.coe_sub]
  congr 1
  ring

/-- A sum over three groups of rows. -/
theorem sum_groups (f : Fin 12288 → EReal) :
    (∑ R : Fin 12288, f R) = (∑ r : Fin 4096, f (⟨r.val, by omega⟩ : Fin 12288)) + (∑ r : Fin 4096, f (⟨4096 + r.val, by omega⟩ : Fin 12288))
      + ∑ r : Fin 4096, f (⟨8192 + r.val, by omega⟩ : Fin 12288) := by
  rw [Fin.sum_univ_add (a := 8192) (b := 4096) f]
  congr 1
  exact Fin.sum_univ_add (a := 4096) (b := 4096) (fun i : Fin (4096 + 4096) => f (Fin.castAdd 4096 i))

/-- A sum over the rows is the sum over the blocks of the sums over a block's rows. -/
theorem sum_blocks (f : Fin 4096 → EReal) : (∑ r : Fin 4096, f r) = ∑ t : Fin 16, ∑ r : Fin 256, f (rowOf t r) := by
  rw [← Fintype.sum_prod_type' (f := fun (t : Fin 16) (r : Fin 256) => f (rowOf t r))]
  symm
  refine Fintype.sum_equiv (finProdFinEquiv (m := 16) (n := 256)) _ _ fun x => ?_
  refine congrArg f (Fin.ext ?_)
  show 256 * x.1.val + x.2.val = x.2.val + 256 * x.1.val
  omega

end Cert.Proof

end
-- ==== Proof.KernelNoise.lean ====
/-
  The kernel's host prefix draws the reference's Gumbel numbers: the same Threefry rounds, window by window.
-/
module

public import proofs.«01_k».proof.Proof.Gen.KernelIdeal.Frame.Runs
public import proofs.«01_k».proof.Proof.Gen.ReferenceIdeal.Read
public import Idealize.ShloMosaic.Lib.StableHlo.RunRead

@[expose] public section

set_option maxRecDepth 16384

noncomputable section

namespace Cert.Proof

open Idealize.ShloMosaic Idealize.ShloMosaic.TcCoe Cert.KernelIdeal Cert.KernelIdeal.Gen
open Cert.ReferenceIdeal.Read (val_main_v44 val_main_v45 val_main_v48 val_main_v54 val_main_v83 val_main_v86 val_main_v115 val_main_v118
  val_main_v147 val_main_v150 val_main_v179 val_main_v182 val_main_v215 val_main_v232)

/-- The buffer contents of one device. -/
abbrev Mem := Valuation τ sig (Elt Ideal)

/-- The long stretch of the host prefix, cut into windows of four Threefry rounds. -/
def keyOps : List (HloOp τ sig (Elt Ideal)) := hostOps0 ++ (hostOps0_1 ++ (hostOps0_2 ++ hostOps0_3))
def window (a n : ℕ) : List (HloOp τ sig (Elt Ideal)) := (hostOps0_4.drop a).take n

/-- A constant word at every entry. -/
abbrev splat (w : BitVec 32) : IVec S2x4096x4096 32 := broadcastInDim S2x4096x4096 ![] bcast_S_S2x4096x4096 (constantI S_ 32 w)

/-- What every window of rounds reads: the key words, the rotation counts and the row and column numbers. -/
structure Keys (W : Mem) : Prop where
  v3 : W (Proc.devRef .tc main_v3) = val_main_v44 (F := Ideal)
  v4 : W (Proc.devRef .tc main_v4) = val_main_v45 (F := Ideal)
  v7 : W (Proc.devRef .tc main_v7) = val_main_v48 (F := Ideal)
  v8 : W (Proc.devRef .tc main_v8) = splat 13#32
  v9 : W (Proc.devRef .tc main_v9) = splat 15#32
  v10 : W (Proc.devRef .tc main_v10) = splat 26#32
  v11 : W (Proc.devRef .tc main_v11) = splat 6#32
  v12 : W (Proc.devRef .tc main_v12) = splat 17#32
  v13 : W (Proc.devRef .tc main_v13) = splat 29#32
  v14 : W (Proc.devRef .tc main_v14) = splat 16#32
  v15 : W (Proc.devRef .tc main_v15) = splat 24#32
  v16 : W (Proc.devRef .tc main_v16) = splat 19#32
  v17 : W (Proc.devRef .tc main_v17) = splat 3#32
  v18 : W (Proc.devRef .tc main_v18) = splat 8#32
  v19 : W (Proc.devRef .tc main_v19) = iotaInDim S2x4096x4096 32 1
  v20 : W (Proc.devRef .tc main_v20) = iotaInDim S2x4096x4096 32 2

theorem keys_words (W : Mem) :
    StableHlo.after keyOps W (Proc.devRef .tc main_v3) = val_main_v44 (F := Ideal)
      ∧ StableHlo.after keyOps W (Proc.devRef .tc main_v4) = val_main_v45 (F := Ideal) := by
  constructor
  · after_reads_simp
    rfl
  · after_reads_simp
    rfl

theorem keys_first (W : Mem) (h3 : W (Proc.devRef .tc main_v3) = val_main_v44 (F := Ideal)) (h4 : W (Proc.devRef .tc main_v4) = val_main_v45 (F := Ideal)) :
    Keys (StableHlo.after (window 0 33) W) ∧ StableHlo.after (window 0 33) W (Proc.devRef .tc main_v24) = val_main_v54 (F := Ideal) := by
  refine ⟨⟨?_, ?_, ?_, ?_, ?_, ?_, ?_, ?_, ?_, ?_, ?_, ?_, ?_, ?_, ?_, ?_⟩, ?_⟩
  all_goals
    after_reads_simp <;> simp only [h3, h4] <;> rfl

theorem keys_keep (a n : ℕ) (ha : (a, n) ∈ [(33, 25), (58, 25), (83, 25), (108, 25), (133, 26)]) (W : Mem) (h : Keys W) :
    Keys (StableHlo.after (window a n) W) := by
  obtain ⟨h3, h4, h7, h8, h9, h10, h11, h12, h13, h14, h15, h16, h17, h18, h19, h20⟩ := h
  fin_cases ha
  all_goals
    refine ⟨?_, ?_, ?_, ?_, ?_, ?_, ?_, ?_, ?_, ?_, ?_, ?_, ?_, ?_, ?_, ?_⟩
    all_goals
      after_reads_simp
      assumption

/-- The first four rounds, from the counters to the first injection of key words. -/
theorem rounds1 (W : Mem) (h : Keys W) (x : W (Proc.devRef .tc main_v3) = val_main_v44 (F := Ideal)) (y : W (Proc.devRef .tc main_v24) = val_main_v54 (F := Ideal)) :
    StableHlo.after (window 33 25) W (Proc.devRef .tc main_v45) = val_main_v83 (F := Ideal)
      ∧ StableHlo.after (window 33 25) W (Proc.devRef .tc main_v48) = val_main_v86 (F := Ideal) := by
  obtain ⟨h3, h4, h7, h8, h9, h10, h11, h12, h13, h14, h15, h16, h17, h18, h19, h20⟩ := h
  constructor
  all_goals
    after_reads_simp
    simp only [x, y, h3, h4, h7, h8, h9, h10, h11, h12, h13, h14, h15, h16, h17, h18]
    rfl

theorem rounds2 (W : Mem) (h : Keys W) (x : W (Proc.devRef .tc main_v45) = val_main_v83 (F := Ideal)) (y : W (Proc.devRef .tc main_v48) = val_main_v86 (F := Ideal)) :
    StableHlo.after (window 58 25) W (Proc.devRef .tc main_v69) = val_main_v115 (F := Ideal)
      ∧ StableHlo.after (window 58 25) W (Proc.devRef .tc main_v72) = val_main_v118 (F := Ideal) := by
  obtain ⟨h3, h4, h7, h8, h9, h10, h11, h12, h13, h14, h15, h16, h17, h18, h19, h20⟩ := h
  constructor
  all_goals
    after_reads_simp
    simp only [x, y, h3, h4, h7, h8, h9, h10, h11, h12, h13, h14, h15, h16, h17, h18]
    rfl

theorem rounds3 (W : Mem) (h : Keys W) (x : W (Proc.devRef .tc main_v69) = val_main_v115 (F := Ideal)) (y : W (Proc.devRef .tc main_v72) = val_main_v118 (F := Ideal)) :
    StableHlo.after (window 83 25) W (Proc.devRef .tc main_v93) = val_main_v147 (F := Ideal)
      ∧ StableHlo.after (window 83 25) W (Proc.devRef .tc main_v96) = val_main_v150 (F := Ideal) := by
  obtain ⟨h3, h4, h7, h8, h9, h10, h11, h12, h13, h14, h15, h16, h17, h18, h19, h20⟩ := h
  constructor
  all_goals
    after_reads_simp
    simp only [x, y, h3, h4, h7, h8, h9, h10, h11, h12, h13, h14, h15, h16, h17, h18]
    rfl

theorem rounds4 (W : Mem) (h : Keys W) (x : W (Proc.devRef .tc main_v93) = val_main_v147 (F := Ideal)) (y : W (Proc.devRef .tc main_v96) = val_main_v150 (F := Ideal)) :
    StableHlo.after (window 108 25) W (Proc.devRef .tc main_v117) = val_main_v179 (F := Ideal)
      ∧ StableHlo.after (window 108 25) W (Proc.devRef .tc main_v120) = val_main_v182 (F := Ideal) := by
  obtain ⟨h3, h4, h7, h8, h9, h10, h11, h12, h13, h14, h15, h16, h17, h18, h19, h20⟩ := h
  constructor
  all_goals
    after_reads_simp
    simp only [x, y, h3, h4, h7, h8, h9, h10, h11, h12, h13, h14, h15, h16, h17, h18]
    rfl

/-- The last rounds, and the two words joined. -/
theorem rounds5 (W : Mem) (h : Keys W) (x : W (Proc.devRef .tc main_v117) = val_main_v179 (F := Ideal)) (y : W (Proc.devRef .tc main_v120) = val_main_v182 (F := Ideal)) :
    StableHlo.after (window 133 26) W (Proc.devRef .tc main_v145) = val_main_v215 (F := Ideal) := by
  obtain ⟨h3, h4, h7, h8, h9, h10, h11, h12, h13, h14, h15, h16, h17, h18, h19, h20⟩ := h
  after_reads_simp
  simp only [x, y, h3, h4, h7, h8, h9, h10, h11, h12, h13, h14, h15, h16, h17, h18]
  rfl

/-- The Gumbel numbers from the words, masked on the diagonal. -/
def masked : FVec Ideal S2x4096x4096 .f32 :=
  select (cmpi .eq (iotaInDim S2x4096x4096 32 1) (iotaInDim S2x4096x4096 32 2))
    (broadcastInDim S2x4096x4096 ![] bcast_S_S2x4096x4096 (constant S_ .f32 0xF149F2CA#32)) (val_main_v232 (F := Ideal))

/-- The operations after the rounds. -/
def lastOps : List (HloOp τ sig (Elt Ideal)) := window 159 25 ++ (hostOps0_5 ++ hostOps0_6)

theorem tables (W : Mem) (h : Keys W) (x : W (Proc.devRef .tc main_v145) = val_main_v215 (F := Ideal)) :
    StableHlo.after lastOps W (Proc.devRef .tc main_v167)
        = shapeCast _ (extractStridedSlice S1x4096x4096 ![0, 0, 0] (truncf .bf16 masked bitsLt_bf16_f32) slices_S2x4096x4096_S1x4096x4096_0_0_0) shapeCasts_S1x4096x4096_S4096x4096
      ∧ StableHlo.after lastOps W (Proc.devRef .tc main_v169)
        = shapeCast _ (extractStridedSlice S1x4096x4096 ![1, 0, 0] (truncf .bf16 masked bitsLt_bf16_f32) slices_S2x4096x4096_S1x4096x4096_1_0_0) shapeCasts_S1x4096x4096_S4096x4096
      ∧ StableHlo.after lastOps W (Proc.devRef .tc main_v170) = shapeCast _ (W (Proc.devRef .tc main_arg5)) shapeCasts_S2_S1x2 := by
  obtain ⟨h3, h4, h7, h8, h9, h10, h11, h12, h13, h14, h15, h16, h17, h18, h19, h20⟩ := h
  refine ⟨?_, ?_, ?_⟩
  · after_reads_simp
    simp only [x, h19, h20]
    rfl
  · after_reads_simp
    simp only [x, h19, h20]
    rfl
  · after_reads_simp
    rfl

end Cert.Proof

end
-- ==== Proof.KernelTables.lean ====
/-
  What the kernel's windows are of: the two tables of masked Gumbel numbers and the bias as a row.
-/
module

public import proofs.«01_k».proof.Proof.KernelNoise
public import proofs.«01_k».proof.Proof.RefNoise

@[expose] public section

set_option maxRecDepth 16384

noncomputable section

namespace Cert.Proof

open Idealize.ShloMosaic Idealize.ShloMosaic.TcCoe Cert.KernelIdeal Cert.KernelIdeal.Gen
open Cert.ReferenceIdeal.Read (val_main_v232)

variable (m : (ℓ : Loc nD τ sig) → Buf (Elt Ideal) ℓ) (c : Dev nD)

/-- The host prefix is its windows in order. -/
theorem prefix_split : (List.flatten [hostOps0, hostOps0_1, hostOps0_2, hostOps0_3, hostOps0_4, hostOps0_5, hostOps0_6] : List (HloOp τ sig (Elt Ideal)))
    = keyOps ++ (window 0 33 ++ (window 33 25 ++ (window 58 25 ++ (window 83 25 ++ (window 108 25 ++ (window 133 26 ++ lastOps)))))) := rfl

theorem host_tables :
    V m c main_v167 = shapeCast _ (extractStridedSlice S1x4096x4096 ![0, 0, 0] (truncf .bf16 masked bitsLt_bf16_f32) slices_S2x4096x4096_S1x4096x4096_0_0_0) shapeCasts_S1x4096x4096_S4096x4096
      ∧ V m c main_v169 = shapeCast _ (extractStridedSlice S1x4096x4096 ![1, 0, 0] (truncf .bf16 masked bitsLt_bf16_f32) slices_S2x4096x4096_S1x4096x4096_1_0_0) shapeCasts_S1x4096x4096_S4096x4096 := by
  have hV : ∀ r : Ref sig .tc, V m c r = StableHlo.after lastOps (StableHlo.after (window 133 26) (StableHlo.after (window 108 25) (StableHlo.after (window 83 25)
      (StableHlo.after (window 58 25) (StableHlo.after (window 33 25) (StableHlo.after (window 0 33) (StableHlo.after keyOps fun b => m (c, b)))))))) (Proc.devRef .tc r) := fun r => by
    show StableHlo.after _ _ _ = _
    rw [prefix_split]
    simp only [StableHlo.after_append]
  obtain ⟨k3, k4⟩ := keys_words fun b => m (c, b)
  obtain ⟨K0, x0⟩ := keys_first _ k3 k4
  have K1 := keys_keep 33 25 (by decide) _ K0
  have K2 := keys_keep 58 25 (by decide) _ K1
  have K3 := keys_keep 83 25 (by decide) _ K2
  have K4 := keys_keep 108 25 (by decide) _ K3
  have K5 := keys_keep 133 26 (by decide) _ K4
  obtain ⟨x1, y1⟩ := rounds1 _ K0 K0.v3 x0
  obtain ⟨x2, y2⟩ := rounds2 _ K1 x1 y1
  obtain ⟨x3, y3⟩ := rounds3 _ K2 x2 y2
  obtain ⟨x4, y4⟩ := rounds4 _ K3 x3 y3
  have x5 := rounds5 _ K4 x4 y4
  obtain ⟨h0, h1, _⟩ := tables _ K5 x5
  exact ⟨(hV _).trans h0, (hV _).trans h1⟩

theorem host_bias : V m c main_v170 = shapeCast S1x2 (m (c, Proc.devRef .tc main_arg5)) shapeCasts_S2_S1x2 := by
  show StableHlo.after _ _ _ = _
  after_reads_simp
  rfl

/-- A masked Gumbel number. -/
theorem masked_at (k : Fin 2) (r j : Fin 4096) : masked (ix3 k r j) = if j = r then Ideal.ofBits .f32 0xF149F2CA#32 else noise k r j := by
  unfold masked noise
  generalize val_main_v232 (F := Ideal) = y
  pointwise
  show (if BitVec.ofBool (BitVec.ofNat 32 r.val == BitVec.ofNat 32 j.val) = 1#1 then _ else _) = _
  by_cases h : j = r
  · rw [if_pos h, h, beq_self_eq_true]; rfl
  · rw [if_neg h, show (BitVec.ofNat 32 r.val == BitVec.ofNat 32 j.val) = false from by
      rw [beq_eq_false_iff_ne, ne_eq, ofNat_eq_iff]; exact fun e => h e.symm]
    rfl

theorem table0_at (r j : Fin 4096) :
    V m c main_v167 (ix2 r j) = if j = r then Ideal.ofBits .f32 0xF149F2CA#32 else noise 0 r j := by
  rw [(host_tables m c).1, ← masked_at]
  generalize masked = y
  pointwise

theorem table1_at (r j : Fin 4096) :
    V m c main_v169 (ix2 r j) = if j = r then Ideal.ofBits .f32 0xF149F2CA#32 else noise 1 r j := by
  rw [(host_tables m c).2, ← masked_at]
  generalize masked = y
  pointwise

theorem bias_at (k : Fin 2) : V m c main_v170 (ix2 (0 : Fin 1) k) = m (c, Proc.devRef .tc main_arg5) (ix1 k) := by
  rw [host_bias]
  pointwise

end Cert.Proof

end
-- ==== Proof.KernelValue.lean ====
/-
  The kernel's result: the running total is the sum over the blocks of the three groups' negative log-likelihoods.
-/
module

public import proofs.«01_k».proof.Proof.Likelihood
public import proofs.«01_k».proof.Proof.KernelTables

@[expose] public section

set_option maxRecDepth 16384

noncomputable section

namespace Cert.Proof

open Idealize.ShloMosaic Idealize.ShloMosaic.TcCoe Cert.KernelIdeal Cert.KernelIdeal.Gen
open Idealize.SL.Sem

section
variable (x0 x1 : Rows) (w : Weights) (b : Bias) (p q : Fin 4096 → Fin 4096)

/-- The two logits of a matched pair, of an image with a picked text, and of a picked image with a text. -/
def matchedLogits (r : Fin 4096) (j : Fin 2) : EReal := (imagePart x0 w r j + textPart x1 w r j) + b (ix1 j)
def negTextLogits (r : Fin 4096) (j : Fin 2) : EReal := (imagePart x0 w r j + textPart x1 w (p r) j) + b (ix1 j)
def negImageLogits (r : Fin 4096) (j : Fin 2) : EReal := (imagePart x0 w (q r) j + textPart x1 w r j) + b (ix1 j)

/-- What a block adds to the total. -/
def blockLoss (t : Fin 16) : EReal :=
  ((∑ r : Fin 256, nll (matchedLogits x0 x1 w b (rowOf t r)) 1) + ∑ r : Fin 256, nll (negTextLogits x0 x1 w b p (rowOf t r)) 0)
    + ∑ r : Fin 256, nll (negImageLogits x0 x1 w b q (rowOf t r)) 0

end

theorem off1_at : ∀ t : Fin 16, k0_off1 (grid0.coords (point t)) 0 = 256 * t.val ∧ k0_off1 (grid0.coords (point t)) 1 = 0 := by decide +kernel

/-- The rows of a scratch array that a block reads. -/
theorem blockRows_at (t : Fin 16) (u : Vec Ideal S4096x2 .f32) (r : Fin 256) (c : Fin 2) :
    blockRows (F := Ideal) (grid0.coords (point t)) u (ix2 r c) = u (ix2 (rowOf t r) c) := by
  obtain ⟨e0, e1⟩ := off1_at t
  refine View.ld_unit_apply_of u _ _ _ _ _ fun a => ?_
  match a with
  | ⟨0, _⟩ => show 256 * t.val + r.val = k0_off1 (grid0.coords (point t)) 0 + r.val; rw [e0]
  | ⟨1, _⟩ => show c.val = k0_off1 (grid0.coords (point t)) 1 + c.val; rw [e1, Nat.zero_add]

section
variable (m : (ℓ : Loc nD τ sig) → Buf (Elt Ideal) ℓ) (c : Dev nD)
variable (x0 x1 : Rows) (x2 x3 : Logits) (w : Weights) (b : Bias) (p q : Fin 4096 → Fin 4096)

/-- The arguments' contents. -/
structure Args : Prop where
  h0 : V m c main_arg0 = x0
  h1 : V m c main_arg1 = x1
  h2 : V m c main_arg2 = x2
  h3 : V m c main_arg3 = x3
  h4 : V m c main_arg4 = w
  h5 : m (c, Proc.devRef .tc main_arg5) = b

/-- A row of the kernel's scores, over one block. -/
theorem score_greatest (x : Logits) (k : Fin 2) (p : Fin 4096 → Fin 4096) (h : Picks x k p) (l : Vec Ideal S256x4096 .f32) (g : Vec Ideal S256x4096 .bf16)
    (t : Fin 16) (hl : ∀ r j, l (ix2 r j) = x (ix2 (rowOf t r) j))
    (hg : ∀ r j, g (ix2 r j) = if j = rowOf t r then Ideal.ofBits .f32 0xF149F2CA#32 else noise k (rowOf t r) j) (r : Fin 256) :
    Greatest (fun j => l (ix2 r j) + g (ix2 r j)) (p (rowOf t r)) := by
  obtain ⟨y, z, hy, hz, hok⟩ := h (rowOf t r)
  simp only [hl, hg, hy, hz]
  exact kernel_choice y z _ _ hok

theorem grow_at (ha : Args m c x0 x1 x2 x3 w b) (hp : Picks x2 0 p) (hq : Picks x3 1 q) (t : Fin 16) (acc : EReal) :
    grow m c t acc = acc + blockLoss x0 x1 w b p q t := by
  have g0 := score_greatest x2 0 p hp (iblk m c 0 (point t)) (iblk m c 1 (point t)) t
    (fun r j => by rw [block0_at, ha.h2]) (fun r j => by rw [block1_at, table0_at])
  have g1 := score_greatest x3 1 q hq (iblk m c 2 (point t)) (iblk m c 3 (point t)) t
    (fun r j => by rw [block2_at, ha.h3]) (fun r j => by rw [block3_at, table1_at])
  have hb : ∀ j : Fin 2, V m c main_v170 (ix2 (0 : Fin 1) j) = b (ix1 j) := fun j => by rw [bias_at, ha.h5]
  unfold grow addBlock blockLoss
  rw [ha.h0, ha.h1, ha.h4]
  generalize (iblk m c 0 (point t) : Vec Ideal S256x4096 .f32) = l0 at g0 ⊢
  generalize (iblk m c 1 (point t) : Vec Ideal S256x4096 .bf16) = t0 at g0 ⊢
  generalize (iblk m c 2 (point t) : Vec Ideal S256x4096 .f32) = l1 at g1 ⊢
  generalize (iblk m c 3 (point t) : Vec Ideal S256x4096 .bf16) = t1 at g1 ⊢
  generalize (V m c main_v170 : Vec Ideal S1x2 .f32) = bb at hb ⊢
  have e0 := image_at w x0
  have e1 := text_at w x1
  have f0 := imageRounded_at w x0
  have f1 := textRounded_at w x1
  generalize (k0_pay5 (F := Ideal) w x0 : Vec Ideal S4096x2 .f32) = u at e0 ⊢
  generalize (k0_pay6 (F := Ideal) w x1 : Vec Ideal S4096x2 .f32) = v at e1 ⊢
  generalize (k0_pay7 (F := Ideal) w x0 : Vec Ideal S4096x2 .bf16) = ub at f0 ⊢
  generalize (k0_pay8 (F := Ideal) w x1 : Vec Ideal S4096x2 .bf16) = vb at f1 ⊢
  refine (lastLoss_at _ _ _ _ _).trans ?_
  rw [losses_at]
  have z1 : ∀ r : Fin 256, (fun j : Fin 2 => (blockRows (F := Ideal) (grid0.coords (point t)) u (ix2 r j)
      + blockRows (F := Ideal) (grid0.coords (point t)) v (ix2 r j)) + bb (ix2 (0 : Fin 1) j)) = matchedLogits x0 x1 w b (rowOf t r) := fun r => funext fun j => by
    rw [blockRows_at, blockRows_at, e0, e1, hb]; rfl
  have z2 : ∀ r : Fin 256, (fun j : Fin 2 => (blockRows (F := Ideal) (grid0.coords (point t)) u (ix2 r j)
      + k0_pay9 (F := Ideal) l0 t0 vb (ix2 r j)) + bb (ix2 (0 : Fin 1) j)) = negTextLogits x0 x1 w b p (rowOf t r) := fun r => funext fun j => by
    rw [blockRows_at, e0, pick_at l0 t0 vb r j _ (g0 r), f1, hb]; rfl
  have z3 : ∀ r : Fin 256, (fun j : Fin 2 => (k0_pay10 (F := Ideal) l1 t1 ub (ix2 r j)
      + blockRows (F := Ideal) (grid0.coords (point t)) v (ix2 r j)) + bb (ix2 (0 : Fin 1) j)) = negImageLogits x0 x1 w b q (rowOf t r) := fun r => funext fun j => by
    rw [blockRows_at, e1, pick10_at l1 t1 ub r j _ (g1 r), f0, hb]; rfl
  simp only [z1, z2, z3]

theorem total_at (ha : Args m c x0 x1 x2 x3 w b) (hp : Picks x2 0 p) (hq : Picks x3 1 q) :
    ∀ (n : ℕ) (h : n < 16), total m c n h = ∑ k : Fin (n + 1), blockLoss x0 x1 w b p q ⟨k.val, by omega⟩
  | 0, h => by
    unfold total
    rw [grow_at m c x0 x1 x2 x3 w b p q ha hp hq, Fin.sum_univ_one]
    show Ideal.ofBits .f32 0x00000000#32 + _ = _
    rw [Ideal.ofBits_zero_f32, zero_add]
    rfl
  | n + 1, h => by
    unfold total
    rw [grow_at m c x0 x1 x2 x3 w b p q ha hp hq, total_at ha hp hq n (Nat.lt_of_succ_lt h)]
    exact (Fin.sum_univ_castSucc fun k : Fin (n + 2) => blockLoss x0 x1 w b p q ⟨k.val, by omega⟩).symm

/-- The kernel's result. -/
theorem kernel_result (ha : Args m c x0 x1 x2 x3 w b) (hp : Picks x2 0 p) (hq : Picks x3 1 q) :
    resultCell m c = fun _ => Ideal.div (∑ t : Fin 16, blockLoss x0 x1 w b p q t) (Ideal.ofBits .f32 0x46400000#32) := by
  unfold resultCell
  rw [total_at m c x0 x1 x2 x3 w b p q ha hp hq 15 (by decide)]
  rfl

end

end Cert.Proof

end
-- ==== Proof.PreChain.lean ====
/-
  The precondition's own Gumbel numbers are the reference's: the two chains of operations are compared a few steps at
  a time.
-/
module

public import proofs.«01_k».proof.Pre_admissible
public import proofs.«01_k».proof.Proof.Gen.ReferenceIdeal.Read

@[expose] public section

set_option maxRecDepth 16384

noncomputable section

namespace Cert.Proof

open Idealize.ShloMosaic Cert.Pre_admissible Cert.ReferenceIdeal.Read

variable {F : FTy → Type} [FloatOps F] [Facts]
variable (x0 x1 : FVec F S4096x128 .f32) (x2 x3 : FVec F S4096x4096 .f32) (w : FVec F S256x2 .f32) (b : FVec F S2 .f32)

theorem chain0 : fn x0 x1 x2 x3 w b
    = fn_part1 x0 x1 x2 x3 w b (val_main_v44 (F := F)) (val_main_v45 (F := F)) (val_main_v48 (F := F)) (val_main_v54 (F := F)) (val_main_v55 (F := F)) (val_main_v56 (F := F)) := rfl

theorem chain1 : fn_part1 x0 x1 x2 x3 w b (val_main_v44 (F := F)) (val_main_v45 (F := F)) (val_main_v48 (F := F)) (val_main_v54 (F := F)) (val_main_v55 (F := F)) (val_main_v56 (F := F))
    = fn_part2 x0 x1 x2 x3 w b (val_main_v44 (F := F)) (val_main_v45 (F := F)) (val_main_v48 (F := F)) (val_main_v69 (F := F)) (val_main_v75 (F := F)) := rfl

theorem chain2 : fn_part2 x0 x1 x2 x3 w b (val_main_v44 (F := F)) (val_main_v45 (F := F)) (val_main_v48 (F := F)) (val_main_v69 (F := F)) (val_main_v75 (F := F))
    = fn_part3 x0 x1 x2 x3 w b (val_main_v44 (F := F)) (val_main_v45 (F := F)) (val_main_v48 (F := F)) (val_main_v93 (F := F)) (val_main_v94 (F := F)) := rfl

theorem chain3 : fn_part3 x0 x1 x2 x3 w b (val_main_v44 (F := F)) (val_main_v45 (F := F)) (val_main_v48 (F := F)) (val_main_v93 (F := F)) (val_main_v94 (F := F))
    = fn_part4 x0 x1 x2 x3 w b (val_main_v44 (F := F)) (val_main_v45 (F := F)) (val_main_v48 (F := F)) (val_main_v108 (F := F)) (val_main_v110 (F := F)) (val_main_v112 (F := F)) := rfl

theorem chain4 : fn_part4 x0 x1 x2 x3 w b (val_main_v44 (F := F)) (val_main_v45 (F := F)) (val_main_v48 (F := F)) (val_main_v108 (F := F)) (val_main_v110 (F := F)) (val_main_v112 (F := F))
    = fn_part5 x0 x1 x2 x3 w b (val_main_v44 (F := F)) (val_main_v45 (F := F)) (val_main_v48 (F := F)) (val_main_v126 (F := F)) (val_main_v131 (F := F)) := rfl

theorem chain5 : fn_part5 x0 x1 x2 x3 w b (val_main_v44 (F := F)) (val_main_v45 (F := F)) (val_main_v48 (F := F)) (val_main_v126 (F := F)) (val_main_v131 (F := F))
    = fn_part6 x0 x1 x2 x3 w b (val_main_v44 (F := F)) (val_main_v45 (F := F)) (val_main_v48 (F := F)) (val_main_v147 (F := F)) (val_main_v150 (F := F)) := rfl

theorem chain6 : fn_part6 x0 x1 x2 x3 w b (val_main_v44 (F := F)) (val_main_v45 (F := F)) (val_main_v48 (F := F)) (val_main_v147 (F := F)) (val_main_v150 (F := F))
    = fn_part7 x0 x1 x2 x3 w b (val_main_v44 (F := F)) (val_main_v45 (F := F)) (val_main_v48 (F := F)) (val_main_v164 (F := F)) (val_main_v165 (F := F)) (val_main_v167 (F := F)) (val_main_v168 (F := F)) := rfl

theorem chain7 : fn_part7 x0 x1 x2 x3 w b (val_main_v44 (F := F)) (val_main_v45 (F := F)) (val_main_v48 (F := F)) (val_main_v164 (F := F)) (val_main_v165 (F := F)) (val_main_v167 (F := F)) (val_main_v168 (F := F))
    = fn_part8 x0 x1 x2 x3 w b (val_main_v44 (F := F)) (val_main_v48 (F := F)) (val_main_v183 (F := F)) (val_main_v185 (F := F)) (val_main_v187 (F := F)) := rfl

theorem chain8 : fn_part8 x0 x1 x2 x3 w b (val_main_v44 (F := F)) (val_main_v48 (F := F)) (val_main_v183 (F := F)) (val_main_v185 (F := F)) (val_main_v187 (F := F))
    = fn_part9 x0 x1 x2 x3 w b (val_main_v44 (F := F)) (val_main_v48 (F := F)) (val_main_v203 (F := F)) (val_main_v204 (F := F)) (val_main_v206 (F := F)) := rfl

theorem chain9 : fn_part9 x0 x1 x2 x3 w b (val_main_v44 (F := F)) (val_main_v48 (F := F)) (val_main_v203 (F := F)) (val_main_v204 (F := F)) (val_main_v206 (F := F))
    = fn_part10 x0 x1 x2 x3 w b (val_main_v224 (F := F)) := rfl

/-- The precondition's first four arrays: a matrix's entries are below infinity in size. -/
def below (s : Shape) (h : S_.BroadcastsInDim s (![] : Fin 0 → Fin s.rank)) (k : BitVec 32) (pred : CmpFPredicate) (x : FVec F s .f32) : IVec s 1 :=
  cmpf pred (Host.absf x) (broadcastInDim s ![] h (constant S_ .f32 k))

theorem chain10 : fn_part10 x0 x1 x2 x3 w b (val_main_v224 (F := F))
    = fn_part11 x2 x3 (val_main_v232 (F := F)) (below S4096x128 Facts.bcast_S_S4096x128 0x7F800000#32 .olt x0)
        (below S4096x128 Facts.bcast_S_S4096x128 0x7F800000#32 .olt x1) (below S256x2 Facts.bcast_S_S256x2 0x7F800000#32 .olt w)
        (Host.absf b) (constant S_ .f32 0x7F800000#32) := rfl

theorem chain : fn x0 x1 x2 x3 w b
    = fn_part11 x2 x3 (val_main_v232 (F := F)) (below S4096x128 Facts.bcast_S_S4096x128 0x7F800000#32 .olt x0)
        (below S4096x128 Facts.bcast_S_S4096x128 0x7F800000#32 .olt x1) (below S256x2 Facts.bcast_S_S256x2 0x7F800000#32 .olt w)
        (Host.absf b) (constant S_ .f32 0x7F800000#32) := by
  rw [chain0, chain1, chain2, chain3, chain4, chain5, chain6, chain7, chain8, chain9, chain10]

/-- The masked scores of the precondition, and where a row has one greatest score. -/
def maskedScores (x g : FVec F S4096x4096 .f32) : FVec F S4096x4096 .f32 :=
  fn_where_0 (F := F) (cmpi .eq (addi (iotaInDim S4096x4096 32 0) (broadcastInDim S4096x4096 ![] Facts.bcast_S_S4096x4096 (constantI S_ 32 0#32))) (iotaInDim S4096x4096 32 1))
    (constant S_ .f32 0xFF800000#32) (addf x g)

def atGreatest (s : FVec F S4096x4096 .f32) : IVec S4096x4096 1 :=
  cmpf .oeq s (broadcastInDim S4096x4096 ![0, 1] Facts.bcast_S4096x1_S4096x4096_0_1 (broadcastInDim S4096x1 ![0] Facts.bcast_S4096_S4096x1_0
    (Host.reduce FloatOps.maximumf s (constant S_ .f32 0xFF800000#32) Facts.reducesTo_S4096x4096_S4096_d1 Facts.h_S_)))

def onlyOne (e : IVec S4096x4096 1) : IVec S4096 1 :=
  cmpi .eq (Host.reduce IntOp.addi (extui 32 e Facts.natLt_1_32) (constantI S_ 32 0#32) Facts.reducesTo_S4096x4096_S4096_d1 Facts.h_S_)
    (broadcastInDim S4096 ![] Facts.bcast_S_S4096 (constantI S_ 32 1#32))

def layer0 (n : FVec F S2x4096x4096 .f32) : FVec F S4096x4096 .f32 :=
  shapeCast S4096x4096 (extractStridedSlice S1x4096x4096 ![0, 0, 0] n Facts.slices_S2x4096x4096_S1x4096x4096_0_0_0) Facts.shapeCasts_S1x4096x4096_S4096x4096
def layer1 (n : FVec F S2x4096x4096 .f32) : FVec F S4096x4096 .f32 :=
  shapeCast S4096x4096 (extractStridedSlice S1x4096x4096 ![1, 0, 0] n Facts.slices_S2x4096x4096_S1x4096x4096_1_0_0) Facts.shapeCasts_S1x4096x4096_S4096x4096

/-- The eight arrays of the precondition. -/
theorem fn_eq : fn x0 x1 x2 x3 w b
    = (below S4096x128 Facts.bcast_S_S4096x128 0x7F800000#32 .olt x0, below S4096x128 Facts.bcast_S_S4096x128 0x7F800000#32 .olt x1,
        below S256x2 Facts.bcast_S_S256x2 0x7F800000#32 .olt w, below S2 Facts.bcast_S_S2 0x7F800000#32 .olt b,
        below S4096x4096 Facts.bcast_S_S4096x4096 0x42000000#32 .ole x2, below S4096x4096 Facts.bcast_S_S4096x4096 0x42000000#32 .ole x3,
        onlyOne (atGreatest (maskedScores x2 (layer0 (val_main_v232 (F := F))))), onlyOne (atGreatest (maskedScores x3 (layer1 (val_main_v232 (F := F)))))) := by
  rw [chain]
  generalize (val_main_v232 (F := F)) = n
  rfl

end Cert.Proof

end
-- ==== Proof.PreRead.lean ====
/-
  What the precondition says: the entries of the arguments are real, the logits moderate, and each row picks one column.
-/
module

public import proofs.«01_k».proof.Proof.PreChain
public import proofs.«01_k».proof.Proof.RefTake
public import Idealize.ShloMosaic.Lib.IndicatorCount

@[expose] public section

set_option maxRecDepth 16384

noncomputable section

namespace Cert.Proof

open Idealize.ShloMosaic Cert.Pre_admissible

variable [hPre : Facts]

theorem of_bool_one {d : Prop} [Decidable d] (h : BitVec.ofBool (decide d) = 1#1) : d := by
  by_contra hd
  rw [decide_eq_false hd] at h
  exact absurd h (by decide)

/-- An entry whose size is below infinity is real. -/
theorem real_of_below (x : EReal) (h : max x (-x) < ⊤) : ∃ y : ℝ, x = (y : EReal) := by
  induction x with
  | bot => simp at h
  | top => simp at h
  | coe y => exact ⟨y, rfl⟩

theorem ofBits_inf : Ideal.ofBits .f32 0x7F800000#32 = ⊤ := by
  simp [Ideal.ofBits, Ideal.ieee]

theorem ofBits_32 : Ideal.ofBits .f32 0x42000000#32 = ((32 : ℝ) : EReal) := by
  simp [Ideal.ofBits, Ideal.ieee, -EReal.coe_mul]
  norm_num

theorem real_of (s : Shape) (h : S_.BroadcastsInDim s (![] : Fin 0 → Fin s.rank)) (x : FVec Ideal s .f32)
    (e : below s h 0x7F800000#32 .olt x = fun _ => 1#1) (i : s.Idx) : ∃ y : ℝ, x i = (y : EReal) := by
  have e' : BitVec.ofBool (decide (max (x i) (-(x i)) < Ideal.ofBits .f32 0x7F800000#32)) = 1#1 := congrFun e i
  have := of_bool_one e'
  rw [ofBits_inf] at this
  exact real_of_below _ this

theorem moderate_of (x : FVec Ideal S4096x4096 .f32) (e : below S4096x4096 Facts.bcast_S_S4096x4096 0x42000000#32 .ole x = fun _ => 1#1) (i : S4096x4096.Idx) :
    ∃ y : ℝ, x i = (y : EReal) ∧ |y| ≤ 32 := by
  have e' : BitVec.ofBool (decide (max (x i) (-(x i)) ≤ Ideal.ofBits .f32 0x42000000#32)) = 1#1 := congrFun e i
  have h := of_bool_one e'
  rw [ofBits_32] at h
  obtain ⟨y, hy⟩ := real_of_below (x i) (lt_of_le_of_lt h (EReal.coe_lt_top _))
  refine ⟨y, hy, ?_⟩
  rw [hy, ← EReal.coe_neg, max_coe, EReal.coe_le_coe_iff] at h
  exact abs_le'.2 ⟨(le_max_left _ _).trans h, (le_max_right _ _).trans h⟩

theorem maskedScores_at (x g : FVec Ideal S4096x4096 .f32) (r j : Fin 4096) :
    maskedScores x g (ix2 r j) = if j = r then ⊥ else x (ix2 r j) + g (ix2 r j) := by
  have hm : (cmpi .eq (addi (iotaInDim S4096x4096 32 0) (broadcastInDim S4096x4096 ![] Facts.bcast_S_S4096x4096 (constantI S_ 32 0#32))) (iotaInDim S4096x4096 32 1)) (ix2 r j)
      = BitVec.ofBool (decide (j = r)) := by
    show BitVec.ofBool (BitVec.ofNat 32 r.val + 0#32 == BitVec.ofNat 32 j.val) = _
    congr 1
    rw [Bool.eq_iff_iff, beq_iff_eq, decide_eq_true_iff, BitVec.add_zero, ofNat_eq_iff]
    exact eq_comm
  show Scalar.select ((cmpi .eq (addi (iotaInDim S4096x4096 32 0) (broadcastInDim S4096x4096 ![] Facts.bcast_S_S4096x4096 (constantI S_ 32 0#32))) (iotaInDim S4096x4096 32 1)) (ix2 r j))
    (Ideal.ofBits .f32 0xFF800000#32) (x (ix2 r j) + g (ix2 r j)) = _
  rw [hm, ofBits_neg_inf]
  by_cases h : j = r
  · rw [if_pos h, decide_eq_true h]; rfl
  · rw [if_neg h, decide_eq_false h]; rfl

theorem atGreatest_at (s : FVec Ideal S4096x4096 .f32) (r j : Fin 4096) :
    atGreatest s (ix2 r j) = BitVec.ofBool (decide (s (ix2 r j) = Finset.univ.fold max ⊥ fun k : Fin 4096 => s (ix2 r k))) := by
  have hm := reduce_row_at (FloatOps.maximumf (F := Ideal) (φ := .f32)) s Facts.reducesTo_S4096x4096_S4096_d1 (by decide) (constant (F := Ideal) S_ .f32 0xFF800000#32) Facts.h_S_ r
  unfold atGreatest
  generalize Host.reduce (FloatOps.maximumf (F := Ideal) (φ := .f32)) s (constant (F := Ideal) S_ .f32 0xFF800000#32) Facts.reducesTo_S4096x4096_S4096_d1 Facts.h_S_ = y at hm ⊢
  have hb : broadcastInDim S4096x4096 ![0, 1] Facts.bcast_S4096x1_S4096x4096_0_1 (broadcastInDim S4096x1 ![0] Facts.bcast_S4096_S4096x1_0 y) (ix2 r j) = y (ix1 r) := by pointwise
  show BitVec.ofBool (decide (s (ix2 r j) = broadcastInDim S4096x4096 ![0, 1] Facts.bcast_S4096x1_S4096x4096_0_1 (broadcastInDim S4096x1 ![0] Facts.bcast_S4096_S4096x1_0 y) (ix2 r j))) = _
  rw [hb, hm]
  show BitVec.ofBool (decide (s (ix2 r j) = Finset.univ.fold max (Ideal.ofBits .f32 0xFF800000#32) fun k : Fin 4096 => s (ix2 r k))) = _
  rw [ofBits_neg_inf]

theorem onlyOne_at (e : IVec S4096x4096 1) (h : onlyOne e = fun _ => 1#1) (r : Fin 4096) :
    ∃ p : Fin 4096, ∀ j, e (ix2 r j) = 1#1 ↔ j = p := by
  have hm := reduce_row_at (IntOp.addi (w := 32)) (extui 32 e Facts.natLt_1_32) Facts.reducesTo_S4096x4096_S4096_d1 (by decide) (constantI S_ 32 0#32) Facts.h_S_ r
  have h1 : IntOp.cmpi .eq (Host.reduce (IntOp.addi (w := 32)) (extui 32 e Facts.natLt_1_32) (constantI S_ 32 0#32) Facts.reducesTo_S4096x4096_S4096_d1 Facts.h_S_ (ix1 r)) 1#32 = 1#1 := congrFun h (ix1 r)
  rw [hm] at h1
  have h2 : Finset.univ.fold (IntOp.addi (w := 32)) (0#32) (fun k : Fin 4096 => (e (ix2 r k)).setWidth 32) = 1#32 := by
    have h3 : BitVec.ofBool (Finset.univ.fold (IntOp.addi (w := 32)) (0#32) (fun k : Fin 4096 => (e (ix2 r k)).setWidth 32) == 1#32) = 1#1 := h1
    by_contra hne
    rw [beq_eq_false_iff_ne.2 hne] at h3
    exact absurd h3 (by decide)
  rw [IndicatorCount.fold_addi_setWidth_eq_card] at h2
  have hc : (Finset.univ.filter fun k : Fin 4096 => e (ix2 r k) = 1#1).card = 1 := by
    have hle : (Finset.univ.filter fun k : Fin 4096 => e (ix2 r k) = 1#1).card ≤ 4096 := (Finset.card_le_univ _).trans (by simp)
    have h4 := congrArg BitVec.toNat h2
    rw [BitVec.toNat_ofNat, Nat.mod_eq_of_lt (by omega)] at h4
    exact h4
  obtain ⟨p, hp⟩ := Finset.card_eq_one.1 hc
  refine ⟨p, fun j => ?_⟩
  have := congrArg (j ∈ ·) hp
  simpa using this

/-- A row with one greatest masked score picks a column. -/
theorem picks_of (x : FVec Ideal S4096x4096 .f32) (k : Fin 2) (g : FVec Ideal S4096x4096 .f32) (hg : ∀ r j, g (ix2 r j) = noise k r j)
    (hx : ∀ i, ∃ y : ℝ, x i = (y : EReal) ∧ |y| ≤ 32) (h : onlyOne (atGreatest (maskedScores x g)) = fun _ => 1#1) : ∃ p, Picks x k p := by
  choose l hl hl32 using hx
  have main : ∀ r, ∃ p, ∃ l g : Fin 4096 → ℝ, (∀ j, x (ix2 r j) = (l j : EReal)) ∧ (∀ j, noise k r j = (g j : EReal)) ∧ RowOk l g r p := fun r => by
    obtain ⟨z, hz, hz100⟩ := noise_real k r
    obtain ⟨p, hp⟩ := onlyOne_at _ h r
    have hs : ∀ j, maskedScores x g (ix2 r j) = if j = r then ⊥ else ((l (ix2 r j) + z j : ℝ) : EReal) := fun j => by
      rw [maskedScores_at, hl, hg, hz, EReal.coe_add]
    obtain ⟨q, hq, hle⟩ := fold_max_spec r (fun j : Fin 4096 => maskedScores x g (ix2 r j))
    have hat : ∀ j, maskedScores x g (ix2 r j) = maskedScores x g (ix2 r q) ↔ j = p := fun j => by
      rw [← hp j, atGreatest_at, hq]
      constructor
      · intro e; rw [decide_eq_true e]; rfl
      · exact fun e => of_bool_one e
    obtain rfl : q = p := (hat q).1 rfl
    have hlt : ∀ j, j ≠ q → maskedScores x g (ix2 r j) < maskedScores x g (ix2 r q) := fun j hj =>
      lt_of_le_of_ne (hle j) fun e => hj ((hat j).1 e)
    have hqr : q ≠ r := by
      rintro rfl
      obtain ⟨j, hj⟩ : ∃ j : Fin 4096, j ≠ q := exists_ne q
      have := hlt j hj
      rw [hs q, if_pos rfl] at this
      exact absurd this (not_lt_bot)
    refine ⟨q, fun j => l (ix2 r j), z, fun j => hl _, hz, hqr, fun j hjr hjq => ?_, fun j => hl32 _, hz100⟩
    have := hlt j hjq
    rw [hs j, hs q, if_neg hjr, if_neg hqr, EReal.coe_lt_coe_iff] at this
    exact this
  choose p hp using main
  exact ⟨p, hp⟩

theorem layer0_at (r j : Fin 4096) : layer0 (F := Ideal) (Cert.ReferenceIdeal.Read.val_main_v232 (F := Ideal)) (ix2 r j) = noise 0 r j := by
  unfold layer0 noise
  generalize Cert.ReferenceIdeal.Read.val_main_v232 (F := Ideal) = y
  pointwise

theorem layer1_at (r j : Fin 4096) : layer1 (F := Ideal) (Cert.ReferenceIdeal.Read.val_main_v232 (F := Ideal)) (ix2 r j) = noise 1 r j := by
  unfold layer1 noise
  generalize Cert.ReferenceIdeal.Read.val_main_v232 (F := Ideal) = y
  pointwise

/-- What the precondition says of the arguments. -/
structure Admissible (x0 x1 : Rows) (x2 x3 : Logits) (w : Weights) (b : Bias) : Prop where
  real0 : ∀ i, ∃ y : ℝ, x0 i = (y : EReal)
  real1 : ∀ i, ∃ y : ℝ, x1 i = (y : EReal)
  real4 : ∀ i, ∃ y : ℝ, w i = (y : EReal)
  real5 : ∀ i, ∃ y : ℝ, b i = (y : EReal)
  picks2 : ∃ p, Picks x2 0 p
  picks3 : ∃ q, Picks x3 1 q

theorem admissible_read (x0 x1 : Rows) (x2 x3 : Logits) (w : Weights) (b : Bias)
    (h : (fn (F := Ideal) x0 x1 x2 x3 w b).1 = (fun _ => 1#1) ∧ (fn (F := Ideal) x0 x1 x2 x3 w b).2.1 = (fun _ => 1#1)
      ∧ (fn (F := Ideal) x0 x1 x2 x3 w b).2.2.1 = (fun _ => 1#1) ∧ (fn (F := Ideal) x0 x1 x2 x3 w b).2.2.2.1 = (fun _ => 1#1)
      ∧ (fn (F := Ideal) x0 x1 x2 x3 w b).2.2.2.2.1 = (fun _ => 1#1) ∧ (fn (F := Ideal) x0 x1 x2 x3 w b).2.2.2.2.2.1 = (fun _ => 1#1)
      ∧ (fn (F := Ideal) x0 x1 x2 x3 w b).2.2.2.2.2.2.1 = (fun _ => 1#1) ∧ (fn (F := Ideal) x0 x1 x2 x3 w b).2.2.2.2.2.2.2 = (fun _ => 1#1)) :
    Admissible x0 x1 x2 x3 w b := by
  rw [fn_eq] at h
  dsimp only at h
  obtain ⟨h0, h1, h4, h5, h2, h3, hp, hq⟩ := h
  exact ⟨real_of _ _ x0 h0, real_of _ _ x1 h1, real_of _ _ w h4, real_of _ _ b h5,
    picks_of x2 0 (layer0 (F := Ideal) (Cert.ReferenceIdeal.Read.val_main_v232 (F := Ideal))) layer0_at (moderate_of x2 h2) hp, picks_of x3 1 (layer1 (F := Ideal) (Cert.ReferenceIdeal.Read.val_main_v232 (F := Ideal))) layer1_at (moderate_of x3 h3) hq⟩

end Cert.Proof

end
-- ==== Proof.Equation.lean ====
/-
  The kernel's sum over blocks is the reference's sum over all rows.
-/
module

public import proofs.«01_k».proof.Proof.KernelValue
public import proofs.«01_k».proof.Proof.PreRead

@[expose] public section

set_option maxRecDepth 16384

noncomputable section

namespace Cert.Proof

open Idealize.ShloMosaic Cert.ReferenceIdeal.Read

section
variable (x0 x1 : Rows) (x2 x3 : Logits) (w : Weights) (b : Bias) (p q : Fin 4096 → Fin 4096)

/-- The products of real matrices are real. -/
theorem imagePart_real (h0 : ∀ i, ∃ y : ℝ, x0 i = (y : EReal)) (h4 : ∀ i, ∃ y : ℝ, w i = (y : EReal)) (r : Fin 4096) (j : Fin 2) :
    ∃ y : ℝ, imagePart x0 w r j = (y : EReal) := by
  choose f hf using h0
  choose g hg using h4
  refine ⟨∑ k : Fin 128, f (ix2 r k) * g (ix2 (⟨k.val, by omega⟩ : Fin 256) j), ?_⟩
  unfold imagePart
  rw [← coe_sum]
  exact Finset.sum_congr rfl fun k _ => by rw [hf, hg, EReal.coe_mul]

theorem textPart_real (h1 : ∀ i, ∃ y : ℝ, x1 i = (y : EReal)) (h4 : ∀ i, ∃ y : ℝ, w i = (y : EReal)) (r : Fin 4096) (j : Fin 2) :
    ∃ y : ℝ, textPart x1 w r j = (y : EReal) := by
  choose f hf using h1
  choose g hg using h4
  refine ⟨∑ k : Fin 128, f (ix2 r k) * g (ix2 (⟨128 + k.val, by omega⟩ : Fin 256) j), ?_⟩
  unfold textPart
  rw [← coe_sum]
  exact Finset.sum_congr rfl fun k _ => by rw [hf, hg, EReal.coe_mul]

/-- On real logits the reference's term is the kernel's. -/
theorem term_eq (h : Admissible x0 x1 x2 x3 w b) (r s : Fin 4096) (z : Fin 2 → EReal)
    (hz : ∀ j, z j = (imagePart x0 w r j + textPart x1 w s j) + b (ix1 j)) (c : Fin 2) : -logSoftmax z c = nll z c := by
  choose f hf using imagePart_real x0 w h.real0 h.real4 r
  choose g hg using textPart_real x1 w h.real1 h.real4 s
  choose e he using h.real5
  exact nll_eq z (fun j => f j + g j + e (ix1 j)) (fun j => by rw [hz, hf, hg, he, EReal.coe_add, EReal.coe_add]) c

/-- The reference's sum over all rows. -/
theorem sum_eq (h : Admissible x0 x1 x2 x3 w b) (hp : Picks x2 0 p) (hq : Picks x3 1 q) :
    (∑ R : Fin 12288, -logSoftmax (fun j => val_main_v250 (F := Ideal) x0 x1 x2 x3 w b (ix2 R j)) (label R))
      = ∑ t : Fin 16, blockLoss x0 x1 w b p q t := by
  rw [sum_groups]
  have e1 : ∀ r : Fin 4096, -logSoftmax (fun j => val_main_v250 (F := Ideal) x0 x1 x2 x3 w b (ix2 (⟨r.val, by omega⟩ : Fin 12288) j)) (label (⟨r.val, by omega⟩ : Fin 12288))
      = nll (matchedLogits x0 x1 w b r) 1 := fun r => by
    rw [show (fun j => val_main_v250 (F := Ideal) x0 x1 x2 x3 w b (ix2 (⟨r.val, by omega⟩ : Fin 12288) j)) = matchedLogits x0 x1 w b r from
      funext fun j => matched_at x0 x1 x2 x3 w b r j, show label (⟨r.val, by omega⟩ : Fin 12288) = 1 from if_pos r.isLt]
    exact term_eq x0 x1 x2 x3 w b h r r _ (fun j => rfl) 1
  have e2 : ∀ r : Fin 4096, -logSoftmax (fun j => val_main_v250 (F := Ideal) x0 x1 x2 x3 w b (ix2 (⟨4096 + r.val, by omega⟩ : Fin 12288) j)) (label (⟨4096 + r.val, by omega⟩ : Fin 12288))
      = nll (negTextLogits x0 x1 w b p r) 0 := fun r => by
    rw [show (fun j => val_main_v250 (F := Ideal) x0 x1 x2 x3 w b (ix2 (⟨4096 + r.val, by omega⟩ : Fin 12288) j)) = negTextLogits x0 x1 w b p r from
      funext fun j => negText_at x0 x1 x2 x3 w b p (indices_at x2 p hp) r j,
      show label (⟨4096 + r.val, by omega⟩ : Fin 12288) = 0 from if_neg (by show ¬4096 + r.val < 4096; omega)]
    exact term_eq x0 x1 x2 x3 w b h r (p r) _ (fun j => rfl) 0
  have e3 : ∀ r : Fin 4096, -logSoftmax (fun j => val_main_v250 (F := Ideal) x0 x1 x2 x3 w b (ix2 (⟨8192 + r.val, by omega⟩ : Fin 12288) j)) (label (⟨8192 + r.val, by omega⟩ : Fin 12288))
      = nll (negImageLogits x0 x1 w b q r) 0 := fun r => by
    rw [show (fun j => val_main_v250 (F := Ideal) x0 x1 x2 x3 w b (ix2 (⟨8192 + r.val, by omega⟩ : Fin 12288) j)) = negImageLogits x0 x1 w b q r from
      funext fun j => negImage_at x0 x1 x2 x3 w b q (indices72_at x3 q hq) r j,
      show label (⟨8192 + r.val, by omega⟩ : Fin 12288) = 0 from if_neg (by show ¬8192 + r.val < 4096; omega)]
    exact term_eq x0 x1 x2 x3 w b h (q r) r _ (fun j => rfl) 0
  rw [Finset.sum_congr rfl fun r _ => e1 r, Finset.sum_congr rfl fun r _ => e2 r, Finset.sum_congr rfl fun r _ => e3 r,
    sum_blocks (fun r => nll (matchedLogits x0 x1 w b r) 1), sum_blocks (fun r => nll (negTextLogits x0 x1 w b p r) 0),
    sum_blocks (fun r => nll (negImageLogits x0 x1 w b q r) 0), ← Finset.sum_add_distrib, ← Finset.sum_add_distrib]
  rfl

/-- The reference's result. -/
theorem reference_result (h : Admissible x0 x1 x2 x3 w b) (hp : Picks x2 0 p) (hq : Picks x3 1 q) (i : Cert.ReferenceIdeal.S1x1.Idx) :
    val_main_v262 (F := Ideal) x0 x1 x2 x3 w b i
      = Ideal.div (∑ t : Fin 16, blockLoss x0 x1 w b p q t) (Ideal.ofBits .f32 0x46400000#32) := by
  rw [v262_at, sum_eq x0 x1 x2 x3 w b p q h hp hq, Ideal.ofBits_zero_f32, zero_add]

end

end Cert.Proof

end
-- ==== Proof.Algebraic.lean ====
/-
  The kernel and the reference leave the same number, given the precondition.
-/
module

public import proofs.«01_k».proof.Defs
public import proofs.«01_k».proof.Proof.Equation
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The shapes that the precondition's operations take are the right ones. -/
theorem pre_facts : Cert.Pre_admissible.Facts where
  bcast_S_S2x4096x4096 := by decide
  bcast_S_S4096x128 := by decide
  bcast_S_S256x2 := by decide
  bcast_S_S2 := by decide
  bcast_S_S4096x4096 := by decide
  slices_S2x4096x4096_S1x4096x4096_0_0_0 := by decide
  shapeCasts_S1x4096x4096_S4096x4096 := by decide
  reducesTo_S4096x4096_S4096_d1 := by decide
  h_S_ := by decide
  bcast_S4096_S4096x1_0 := by decide
  bcast_S4096x1_S4096x4096_0_1 := by decide
  natLt_1_32 := by decide
  bcast_S_S4096 := by decide
  slices_S2x4096x4096_S1x4096x4096_1_0_0 := by decide

/-- The reference's result, at arguments that equal admissible ones. -/
theorem reference_of_args [hPre : Cert.Pre_admissible.Facts] (y0 x0 y1 x1 : Rows) (y2 x2 y3 x3 : Logits) (y4 w : Weights) (y5 b : Bias)
    (p q : Fin 4096 → Fin 4096) (e0 : y0 = x0) (e1 : y1 = x1) (e2 : y2 = x2) (e3 : y3 = x3) (e4 : y4 = w) (e5 : y5 = b)
    (h : Admissible x0 x1 x2 x3 w b) (hp : Picks x2 0 p) (hq : Picks x3 1 q) :
    Cert.ReferenceIdeal.Read.val_main_v262 (F := Ideal) y0 y1 y2 y3 y4 y5
      = fun _ => Ideal.div (∑ t : Fin 16, blockLoss x0 x1 w b p q t) (Ideal.ofBits .f32 0x46400000#32) := by
  subst e0 e1 e2 e3 e4 e5
  exact funext fun i => reference_result _ _ _ _ _ _ p q h hp hq i

/-- From equal arguments that satisfy the precondition, kernel and reference end with the same result. -/
theorem algebraic : Cert.algebraic_KernelIdeal_ReferenceIdeal_pre_admissible (hKernelIdeal := Cert.KernelIdeal.Gen.facts)
    (hReferenceIdeal := Cert.ReferenceIdeal.Gen.facts) (hPre_admissible := pre_facts) := by
  intro m g m' g' hpre hargs
  refine ⟨fun c => resultCell (F := Ideal) m c, ?_, ?_⟩
  · refine (θ_run (Cert.KernelIdeal.defs (F := Ideal)) _ _).mono (fun r h c => ?_) (Cert.KernelIdeal.Value.run_blocks (F := Ideal) m g)
    exact ⟨(h c).1.trans (final_result m c), (h c).2⟩
  · refine (θ_run (Cert.ReferenceIdeal.defs (F := Ideal)) _ _).mono (fun r h c => ?_) (Cert.ReferenceIdeal.Value.run (F := Ideal) m' g')
    refine ⟨((h c).1.trans (Cert.ReferenceIdeal.Read.val_main_v262_eq _)).trans ?_, (h c).2⟩
    obtain ⟨a0, a1, a2, a3, a4, a5⟩ := hargs c
    have ha := admissible_read (hPre := pre_facts) _ _ _ _ _ _ (hpre c)
    obtain ⟨p, hp⟩ := ha.picks2
    obtain ⟨q, hq⟩ := ha.picks3
    refine Eq.trans ?_ (kernel_result m c _ _ _ _ _ _ p q ⟨Cert.KernelIdeal.Gen.V_main_arg0 m c, Cert.KernelIdeal.Gen.V_main_arg1 m c, Cert.KernelIdeal.Gen.V_main_arg2 m c,
      Cert.KernelIdeal.Gen.V_main_arg3 m c, Cert.KernelIdeal.Gen.V_main_arg4 m c, rfl⟩ hp hq).symm
    exact reference_of_args (hPre := pre_facts) _ _ _ _ _ _ _ _ _ _ _ _ p q a0 a1 a2 a3 a4 a5 ha hp hq

end Cert.Proof

end
-- ==== Proof.lean ====
/-
  The frames of the three programs, the idealization's preservation and the equality of the kernel's and the
  reference's results, assembled.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Algebraic
public import Idealize.ShloMosaic.Adequacy
public import Idealize.ShloMosaic.Init

@[expose] public section

noncomputable section

namespace Cert.Proof

open Idealize.ShloMosaic Idealize.SL.Sem

/-- The reference runs to the end, its arguments unchanged; it declares no semaphore. -/
theorem reference_runs : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- Every claim, with the side conditions that the programs state. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    reference_runs, fun m ρ _ => reference_runs m ρ trivial, trivial, algebraic⟩

end Cert.Proof

end
